-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_edges_clear [hPre_edges_clear : Cert.Pre_edges_clear.Facts] (m : (ℓ : Loc Cert.KernelIdeal.nD Cert.KernelIdeal.τ Cert.KernelIdeal.sig) → Buf (Elt Ideal) ℓ) : Prop :=
  ∀ c : Dev Cert.KernelIdeal.nD,
    (Cert.Pre_edges_clear.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_edges_clear [hPre_edges_clear : Cert.Pre_edges_clear.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_edges_clear.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_edges_clear [hKernelIdeal : Cert.KernelIdeal.Facts] [hPre_edges_clear : Cert.Pre_edges_clear.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_edges_clear m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_edges_clear [hReferenceIdeal : Cert.ReferenceIdeal.Facts] [hPre_edges_clear : Cert.Pre_edges_clear.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_edges_clear m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_edges_clear [hKernelIdeal : Cert.KernelIdeal.Facts] [hReferenceIdeal : Cert.ReferenceIdeal.Facts] [hPre_edges_clear : Cert.Pre_edges_clear.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_edges_clear m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_edges_clear : Cert.Pre_edges_clear.Facts),
    quiescent_Kernel (hKernel := hKernel)
    ∧ quiescent_KernelIdeal (hKernelIdeal := hKernelIdeal)
    ∧ quiescent_KernelIdeal_pre_edges_clear (hKernelIdeal := hKernelIdeal) (hPre_edges_clear := hPre_edges_clear)
    ∧ quiescent_ReferenceIdeal (hReferenceIdeal := hReferenceIdeal)
    ∧ quiescent_ReferenceIdeal_pre_edges_clear (hReferenceIdeal := hReferenceIdeal) (hPre_edges_clear := hPre_edges_clear)
    ∧ preserves_Kernel_KernelIdeal
    ∧ algebraic_KernelIdeal_ReferenceIdeal_pre_edges_clear (hKernelIdeal := hKernelIdeal) (hReferenceIdeal := hReferenceIdeal) (hPre_edges_clear := hPre_edges_clear)
-- ==== Pre_edges_clear.lean ====
abbrev S16x3x224x224 : Shape := ⟨4, ![16, 3, 224, 224]⟩
abbrev S8 : Shape := ⟨1, ![8]⟩
abbrev S48x224x224 : Shape := ⟨3, ![48, 224, 224]⟩
abbrev S_ : Shape := ⟨0, ![]⟩
abbrev S48x1x224 : Shape := ⟨3, ![48, 1, 224]⟩
abbrev S48x225x224 : Shape := ⟨3, ![48, 225, 224]⟩
abbrev S48x226x224 : Shape := ⟨3, ![48, 226, 224]⟩
abbrev S48x226x1 : Shape := ⟨3, ![48, 226, 1]⟩
abbrev S48x226x225 : Shape := ⟨3, ![48, 226, 225]⟩
abbrev S48x226x226 : Shape := ⟨3, ![48, 226, 226]⟩
abbrev S48x224x224x1 : Shape := ⟨4, ![48, 224, 224, 1]⟩
abbrev S1x1x1x8 : Shape := ⟨4, ![1, 1, 1, 8]⟩
abbrev S48x224x224x8 : Shape := ⟨4, ![48, 224, 224, 8]⟩

class Facts : Prop where
  shapeCasts_S16x3x224x224_S48x224x224 : S16x3x224x224.ShapeCasts S48x224x224
  slices_S48x224x224_S48x1x224_0_0_0 : S48x224x224.Slices ![0, 0, 0] S48x1x224
  slices_S48x224x224_S48x1x224_0_1_0 : S48x224x224.Slices ![0, 1, 0] S48x1x224
  concatenates_S48x1x224_S48x224x224_S48x225x224_d1 : Shape.Concatenates [S48x1x224, S48x224x224] S48x225x224 1
  slices_S48x225x224_S48x1x224_0_224_0 : S48x225x224.Slices ![0, 224, 0] S48x1x224
  slices_S48x225x224_S48x1x224_0_223_0 : S48x225x224.Slices ![0, 223, 0] S48x1x224
  concatenates_S48x225x224_S48x1x224_S48x226x224_d1 : Shape.Concatenates [S48x225x224, S48x1x224] S48x226x224 1
  slices_S48x226x224_S48x226x1_0_0_0 : S48x226x224.Slices ![0, 0, 0] S48x226x1
  slices_S48x226x224_S48x226x1_0_0_1 : S48x226x224.Slices ![0, 0, 1] S48x226x1
  concatenates_S48x226x1_S48x226x224_S48x226x225_d2 : Shape.Concatenates [S48x226x1, S48x226x224] S48x226x225 2
  slices_S48x226x225_S48x226x1_0_0_224 : S48x226x225.Slices ![0, 0, 224] S48x226x1
  slices_S48x226x225_S48x226x1_0_0_223 : S48x226x225.Slices ![0, 0, 223] S48x226x1
  concatenates_S48x226x225_S48x226x1_S48x226x226_d2 : Shape.Concatenates [S48x226x225, S48x226x1] S48x226x226 2
  slices_S48x226x226_S48x224x224_0_0_0 : S48x226x226.Slices ![0, 0, 0] S48x224x224
  bcast_S_S48x224x224 : S_.BroadcastsInDim S48x224x224 (![] : Fin 0 → Fin S48x224x224.rank)
  slices_S48x226x226_S48x224x224_0_0_1 : S48x226x226.Slices ![0, 0, 1] S48x224x224
  slices_S48x226x226_S48x224x224_0_0_2 : S48x226x226.Slices ![0, 0, 2] S48x224x224
  slices_S48x226x226_S48x224x224_0_1_0 : S48x226x226.Slices ![0, 1, 0] S48x224x224
  slices_S48x226x226_S48x224x224_0_1_1 : S48x226x226.Slices ![0, 1, 1] S48x224x224
  slices_S48x226x226_S48x224x224_0_1_2 : S48x226x226.Slices ![0, 1, 2] S48x224x224
  slices_S48x226x226_S48x224x224_0_2_0 : S48x226x226.Slices ![0, 2, 0] S48x224x224
  slices_S48x226x226_S48x224x224_0_2_1 : S48x226x226.Slices ![0, 2, 1] S48x224x224
  slices_S48x226x226_S48x224x224_0_2_2 : S48x226x226.Slices ![0, 2, 2] S48x224x224
  bcast_S_S8 : S_.BroadcastsInDim S8 (![] : Fin 0 → Fin S8.rank)
  bcast_S48x224x224_S48x224x224x1_0_1_2 : S48x224x224.BroadcastsInDim S48x224x224x1 (![0, 1, 2] : Fin 3 → Fin S48x224x224x1.rank)
  bcast_S8_S1x1x1x8_3 : S8.BroadcastsInDim S1x1x1x8 (![3] : Fin 1 → Fin S1x1x1x8.rank)
  bcast_S48x224x224x1_S48x224x224x8_0_1_2_3 : S48x224x224x1.BroadcastsInDim S48x224x224x8 (![0, 1, 2, 3] : Fin 4 → Fin S48x224x224x8.rank)
  bcast_S1x1x1x8_S48x224x224x8_0_1_2_3 : S1x1x1x8.BroadcastsInDim S48x224x224x8 (![0, 1, 2, 3] : Fin 4 → Fin S48x224x224x8.rank)

variable [Facts]

noncomputable abbrev lit0 : Fin 8 → BitVec 32 := fun
  | 0 => 0x3EBA5A4E#32 | 1 => 0x3F56CF3C#32 | 2 => 0x3FDDB3D7#32 | 3 => 0x40B57B24#32 | 4 => 0xC0B57B24#32 | 5 => 0xBFDDB3D7#32 | 6 => 0xBF56CF3C#32 | 7 => 0xBEBA5A4E#32
  | _ => 0#32

def fn_flip {F : FTy → Type} [FloatOps F] (arg0 : FVec F S48x1x224 .f32) : FVec F S48x1x224 .f32 :=
  let v0 : FVec F S48x1x224 .f32 := Host.reverse [1] arg0
  v0

def fn_flip_0 {F : FTy → Type} [FloatOps F] (arg0 : FVec F S48x226x1 .f32) : FVec F S48x226x1 .f32 :=
  let v0 : FVec F S48x226x1 .f32 := Host.reverse [2] arg0
  v0

def fn_pad {F : FTy → Type} [FloatOps F] (arg0 : FVec F S48x224x224 .f32) (arg1 : IVec S_ 32) : FVec F S48x226x226 .f32 :=
  let v0 : FVec F S48x1x224 .f32 := (extractStridedSlice S48x1x224 ![0, 0, 0] · slices_S48x224x224_S48x1x224_0_0_0) arg0
  let v1 : FVec F S48x1x224 .f32 := (extractStridedSlice S48x1x224 ![0, 1, 0] · slices_S48x224x224_S48x1x224_0_1_0) arg0
  let v2 : FVec F S48x1x224 .f32 := fn_flip (F := F) v1
  let v3 : FVec F S48x225x224 .f32 := (fun a b => concatenate S48x225x224 1 [⟨S48x1x224, a⟩, ⟨S48x224x224, b⟩] concatenates_S48x1x224_S48x224x224_S48x225x224_d1) v2 arg0
  let v4 : FVec F S48x1x224 .f32 := (extractStridedSlice S48x1x224 ![0, 224, 0] · slices_S48x225x224_S48x1x224_0_224_0) v3
  let v5 : FVec F S48x1x224 .f32 := (extractStridedSlice S48x1x224 ![0, 223, 0] · slices_S48x225x224_S48x1x224_0_223_0) v3
  let v6 : FVec F S48x1x224 .f32 := fn_flip (F := F) v5
  let v7 : FVec F S48x226x224 .f32 := (fun a b => concatenate S48x226x224 1 [⟨S48x225x224, a⟩, ⟨S48x1x224, b⟩] concatenates_S48x225x224_S48x1x224_S48x226x224_d1) v3 v6
  let v8 : FVec F S48x226x1 .f32 := (extractStridedSlice S48x226x1 ![0, 0, 0] · slices_S48x226x224_S48x226x1_0_0_0) v7
  let v9 : FVec F S48x226x1 .f32 := (extractStridedSlice S48x226x1 ![0, 0, 1] · slices_S48x226x224_S48x226x1_0_0_1) v7
  let v10 : FVec F S48x226x1 .f32 := fn_flip_0 (F := F) v9
  let v11 : FVec F S48x226x225 .f32 := (fun a b => concatenate S48x226x225 2 [⟨S48x226x1, a⟩, ⟨S48x226x224, b⟩] concatenates_S48x226x1_S48x226x224_S48x226x225_d2) v10 v7
  let v12 : FVec F S48x226x1 .f32 := (extractStridedSlice S48x226x1 ![0, 0, 224] · slices_S48x226x225_S48x226x1_0_0_224) v11
  let v13 : FVec F S48x226x1 .f32 := (extractStridedSlice S48x226x1 ![0, 0, 223] · slices_S48x226x225_S48x226x1_0_0_223) v11
  let v14 : FVec F S48x226x1 .f32 := fn_flip_0 (F := F) v13
  let v15 : FVec F S48x226x226 .f32 := (fun a b => concatenate S48x226x226 2 [⟨S48x226x225, a⟩, ⟨S48x226x1, b⟩] concatenates_S48x226x225_S48x226x1_S48x226x226_d2) v11 v14
  v15

def fn_part5 {F : FTy → Type} [FloatOps F] (main_v90 : IVec S48x224x224x8 1) (main_v94 : IVec S48x224x224x8 1) : IVec S48x224x224x8 1 :=
  let main_v95 : IVec S48x224x224x8 1 := cmpi .eq main_v90 main_v94
  main_v95

def fn_part4 {F : FTy → Type} [FloatOps F] (main_cst : FVec F S8 .f32) (main_v38 : FVec F S48x224x224 .f32) (main_v71 : FVec F S48x224x224 .f32) (main_v72 : FVec F S48x224x224 .f32) (main_v73 : FVec F S48x224x224 .f32) : IVec S48x224x224x8 1 :=
  let main_v74 : FVec F S48x224x224 .f32 := mulf main_v73 main_v72
  let main_v75 : FVec F S48x224x224 .f32 := addf main_v71 main_v74
  let main_v76 : FVec F S48x224x224 .f32 := Host.divf main_v38 main_v75
  let main_v77 : FVec F S8 .f32 := sitofp .f32 (iotaInDim S8 32 0)
  let main_cst_20 : FVec F S_ .f32 := constant S_ .f32 0x3F800000#32
  let main_v78 : FVec F S8 .f32 := broadcastInDim S8 ![] bcast_S_S8 main_cst_20
  let main_v79 : FVec F S8 .f32 := addf main_v78 main_v77
  let main_cst_21 : FVec F S_ .f32 := constant S_ .f32 0xBF800000#32
  let main_v80 : FVec F S_ .f32 := Host.acos main_cst_21
  let main_v81 : FVec F S8 .f32 := broadcastInDim S8 ![] bcast_S_S8 main_v80
  let main_v82 : FVec F S8 .f32 := mulf main_v79 main_v81
  let main_cst_22 : FVec F S_ .f32 := constant S_ .f32 0x41100000#32
  let main_v83 : FVec F S8 .f32 := broadcastInDim S8 ![] bcast_S_S8 main_cst_22
  let main_v84 : FVec F S8 .f32 := Host.divf main_v82 main_v83
  let main_v85 : FVec F S8 .f32 := Host.tan main_v84
  let main_v86 : FVec F S48x224x224x1 .f32 := broadcastInDim S48x224x224x1 ![0, 1, 2] bcast_S48x224x224_S48x224x224x1_0_1_2 main_v76
  let main_v87 : FVec F S1x1x1x8 .f32 := broadcastInDim S1x1x1x8 ![3] bcast_S8_S1x1x1x8_3 main_cst
  let main_v88 : FVec F S48x224x224x8 .f32 := broadcastInDim S48x224x224x8 ![0, 1, 2, 3] bcast_S48x224x224x1_S48x224x224x8_0_1_2_3 main_v86
  let main_v89 : FVec F S48x224x224x8 .f32 := broadcastInDim S48x224x224x8 ![0, 1, 2, 3] bcast_S1x1x1x8_S48x224x224x8_0_1_2_3 main_v87
  let main_v90 : IVec S48x224x224x8 1 := cmpf .oge main_v88 main_v89
  let main_v91 : FVec F S1x1x1x8 .f32 := broadcastInDim S1x1x1x8 ![3] bcast_S8_S1x1x1x8_3 main_v85
  let main_v92 : FVec F S48x224x224x8 .f32 := broadcastInDim S48x224x224x8 ![0, 1, 2, 3] bcast_S48x224x224x1_S48x224x224x8_0_1_2_3 main_v86
  let main_v93 : FVec F S48x224x224x8 .f32 := broadcastInDim S48x224x224x8 ![0, 1, 2, 3] bcast_S1x1x1x8_S48x224x224x8_0_1_2_3 main_v91
  let main_v94 : IVec S48x224x224x8 1 := cmpf .oge main_v92 main_v93
  fn_part5 (F := F) main_v90 main_v94

def fn_part3 {F : FTy → Type} [FloatOps F] (main_cst : FVec F S8 .f32) (main_v1 : FVec F S48x226x226 .f32) (main_v38 : FVec F S48x224x224 .f32) (main_v51 : FVec F S48x224x224 .f32) (main_v54 : FVec F S48x224x224 .f32) : IVec S48x224x224x8 1 :=
  let main_v55 : FVec F S48x224x224 .f32 := addf main_v51 main_v54
  let main_v56 : FVec F S48x224x224 .f32 := (extractStridedSlice S48x224x224 ![0, 1, 1] · slices_S48x226x226_S48x224x224_0_1_1) main_v1
  let main_cst_15 : FVec F S_ .f32 := constant S_ .f32 0x00000000#32
  let main_v57 : FVec F S48x224x224 .f32 := broadcastInDim S48x224x224 ![] bcast_S_S48x224x224 main_cst_15
  let main_v58 : FVec F S48x224x224 .f32 := mulf main_v57 main_v56
  let main_v59 : FVec F S48x224x224 .f32 := addf main_v55 main_v58
  let main_v60 : FVec F S48x224x224 .f32 := (extractStridedSlice S48x224x224 ![0, 1, 2] · slices_S48x226x226_S48x224x224_0_1_2) main_v1
  let main_cst_16 : FVec F S_ .f32 := constant S_ .f32 0x00000000#32
  let main_v61 : FVec F S48x224x224 .f32 := broadcastInDim S48x224x224 ![] bcast_S_S48x224x224 main_cst_16
  let main_v62 : FVec F S48x224x224 .f32 := mulf main_v61 main_v60
  let main_v63 : FVec F S48x224x224 .f32 := addf main_v59 main_v62
  let main_v64 : FVec F S48x224x224 .f32 := (extractStridedSlice S48x224x224 ![0, 2, 0] · slices_S48x226x226_S48x224x224_0_2_0) main_v1
  let main_cst_17 : FVec F S_ .f32 := constant S_ .f32 0xBF800000#32
  let main_v65 : FVec F S48x224x224 .f32 := broadcastInDim S48x224x224 ![] bcast_S_S48x224x224 main_cst_17
  let main_v66 : FVec F S48x224x224 .f32 := mulf main_v65 main_v64
  let main_v67 : FVec F S48x224x224 .f32 := addf main_v63 main_v66
  let main_v68 : FVec F S48x224x224 .f32 := (extractStridedSlice S48x224x224 ![0, 2, 1] · slices_S48x226x226_S48x224x224_0_2_1) main_v1
  let main_cst_18 : FVec F S_ .f32 := constant S_ .f32 0xC0000000#32
  let main_v69 : FVec F S48x224x224 .f32 := broadcastInDim S48x224x224 ![] bcast_S_S48x224x224 main_cst_18
  let main_v70 : FVec F S48x224x224 .f32 := mulf main_v69 main_v68
  let main_v71 : FVec F S48x224x224 .f32 := addf main_v67 main_v70
  let main_v72 : FVec F S48x224x224 .f32 := (extractStridedSlice S48x224x224 ![0, 2, 2] · slices_S48x226x226_S48x224x224_0_2_2) main_v1
  let main_cst_19 : FVec F S_ .f32 := constant S_ .f32 0xBF800000#32
  let main_v73 : FVec F S48x224x224 .f32 := broadcastInDim S48x224x224 ![] bcast_S_S48x224x224 main_cst_19
  fn_part4 (F := F) main_cst main_v38 main_v71 main_v72 main_v73

def fn_part2 {F : FTy → Type} [FloatOps F] (main_cst : FVec F S8 .f32) (main_v1 : FVec F S48x226x226 .f32) (main_v34 : FVec F S48x224x224 .f32) (main_v35 : FVec F S48x224x224 .f32) (main_cst_9 : FVec F S_ .f32) : IVec S48x224x224x8 1 :=
  let main_v36 : FVec F S48x224x224 .f32 := broadcastInDim S48x224x224 ![] bcast_S_S48x224x224 main_cst_9
  let main_v37 : FVec F S48x224x224 .f32 := mulf main_v36 main_v35
  let main_v38 : FVec F S48x224x224 .f32 := addf main_v34 main_v37
  let main_v39 : FVec F S48x224x224 .f32 := (extractStridedSlice S48x224x224 ![0, 0, 0] · slices_S48x226x226_S48x224x224_0_0_0) main_v1
  let main_cst_10 : FVec F S_ .f32 := constant S_ .f32 0x3F800000#32
  let main_v40 : FVec F S48x224x224 .f32 := broadcastInDim S48x224x224 ![] bcast_S_S48x224x224 main_cst_10
  let main_v41 : FVec F S48x224x224 .f32 := mulf main_v40 main_v39
  let main_cst_11 : FVec F S_ .f32 := constant S_ .f32 0x00000000#32
  let main_v42 : FVec F S48x224x224 .f32 := broadcastInDim S48x224x224 ![] bcast_S_S48x224x224 main_cst_11
  let main_v43 : FVec F S48x224x224 .f32 := addf main_v42 main_v41
  let main_v44 : FVec F S48x224x224 .f32 := (extractStridedSlice S48x224x224 ![0, 0, 1] · slices_S48x226x226_S48x224x224_0_0_1) main_v1
  let main_cst_12 : FVec F S_ .f32 := constant S_ .f32 0x40000000#32
  let main_v45 : FVec F S48x224x224 .f32 := broadcastInDim S48x224x224 ![] bcast_S_S48x224x224 main_cst_12
  let main_v46 : FVec F S48x224x224 .f32 := mulf main_v45 main_v44
  let main_v47 : FVec F S48x224x224 .f32 := addf main_v43 main_v46
  let main_v48 : FVec F S48x224x224 .f32 := (extractStridedSlice S48x224x224 ![0, 0, 2] · slices_S48x226x226_S48x224x224_0_0_2) main_v1
  let main_cst_13 : FVec F S_ .f32 := constant S_ .f32 0x3F800000#32
  let main_v49 : FVec F S48x224x224 .f32 := broadcastInDim S48x224x224 ![] bcast_S_S48x224x224 main_cst_13
  let main_v50 : FVec F S48x224x224 .f32 := mulf main_v49 main_v48
  let main_v51 : FVec F S48x224x224 .f32 := addf main_v47 main_v50
  let main_v52 : FVec F S48x224x224 .f32 := (extractStridedSlice S48x224x224 ![0, 1, 0] · slices_S48x226x226_S48x224x224_0_1_0) main_v1
  let main_cst_14 : FVec F S_ .f32 := constant S_ .f32 0x00000000#32
  let main_v53 : FVec F S48x224x224 .f32 := broadcastInDim S48x224x224 ![] bcast_S_S48x224x224 main_cst_14
  let main_v54 : FVec F S48x224x224 .f32 := mulf main_v53 main_v52
  fn_part3 (F := F) main_cst main_v1 main_v38 main_v51 main_v54

def fn_part1 {F : FTy → Type} [FloatOps F] (main_cst : FVec F S8 .f32) (main_v1 : FVec F S48x226x226 .f32) (main_v14 : FVec F S48x224x224 .f32) (main_v15 : FVec F S48x224x224 .f32) (main_v16 : FVec F S48x224x224 .f32) : IVec S48x224x224x8 1 :=
  let main_v17 : FVec F S48x224x224 .f32 := mulf main_v16 main_v15
  let main_v18 : FVec F S48x224x224 .f32 := addf main_v14 main_v17
  let main_v19 : FVec F S48x224x224 .f32 := (extractStridedSlice S48x224x224 ![0, 1, 1] · slices_S48x226x226_S48x224x224_0_1_1) main_v1
  let main_cst_5 : FVec F S_ .f32 := constant S_ .f32 0x00000000#32
  let main_v20 : FVec F S48x224x224 .f32 := broadcastInDim S48x224x224 ![] bcast_S_S48x224x224 main_cst_5
  let main_v21 : FVec F S48x224x224 .f32 := mulf main_v20 main_v19
  let main_v22 : FVec F S48x224x224 .f32 := addf main_v18 main_v21
  let main_v23 : FVec F S48x224x224 .f32 := (extractStridedSlice S48x224x224 ![0, 1, 2] · slices_S48x226x226_S48x224x224_0_1_2) main_v1
  let main_cst_6 : FVec F S_ .f32 := constant S_ .f32 0xC0000000#32
  let main_v24 : FVec F S48x224x224 .f32 := broadcastInDim S48x224x224 ![] bcast_S_S48x224x224 main_cst_6
  let main_v25 : FVec F S48x224x224 .f32 := mulf main_v24 main_v23
  let main_v26 : FVec F S48x224x224 .f32 := addf main_v22 main_v25
  let main_v27 : FVec F S48x224x224 .f32 := (extractStridedSlice S48x224x224 ![0, 2, 0] · slices_S48x226x226_S48x224x224_0_2_0) main_v1
  let main_cst_7 : FVec F S_ .f32 := constant S_ .f32 0x3F800000#32
  let main_v28 : FVec F S48x224x224 .f32 := broadcastInDim S48x224x224 ![] bcast_S_S48x224x224 main_cst_7
  let main_v29 : FVec F S48x224x224 .f32 := mulf main_v28 main_v27
  let main_v30 : FVec F S48x224x224 .f32 := addf main_v26 main_v29
  let main_v31 : FVec F S48x224x224 .f32 := (extractStridedSlice S48x224x224 ![0, 2, 1] · slices_S48x226x226_S48x224x224_0_2_1) main_v1
  let main_cst_8 : FVec F S_ .f32 := constant S_ .f32 0x00000000#32
  let main_v32 : FVec F S48x224x224 .f32 := broadcastInDim S48x224x224 ![] bcast_S_S48x224x224 main_cst_8
  let main_v33 : FVec F S48x224x224 .f32 := mulf main_v32 main_v31
  let main_v34 : FVec F S48x224x224 .f32 := addf main_v30 main_v33
  let main_v35 : FVec F S48x224x224 .f32 := (extractStridedSlice S48x224x224 ![0, 2, 2] · slices_S48x226x226_S48x224x224_0_2_2) main_v1
  let main_cst_9 : FVec F S_ .f32 := constant S_ .f32 0xBF800000#32
  fn_part2 (F := F) main_cst main_v1 main_v34 main_v35 main_cst_9

def fn {F : FTy → Type} [FloatOps F] (main_arg0 : FVec F S16x3x224x224 .f32) : IVec S48x224x224x8 1 :=
  let main_cst : FVec F S8 .f32 := fun i => FloatOps.ofBits .f32 (lit0 (S8.rowMajor i))
  let main_v0 : FVec F S48x224x224 .f32 := shapeCast S48x224x224 main_arg0 shapeCasts_S16x3x224x224_S48x224x224
  let main_c : IVec S_ 32 := constantI S_ 32 0#32
  let main_v1 : FVec F S48x226x226 .f32 := fn_pad (F := F) main_v0 main_c
  let main_v2 : FVec F S48x224x224 .f32 := (extractStridedSlice S48x224x224 ![0, 0, 0] · slices_S48x226x226_S48x224x224_0_0_0) main_v1
  let main_cst_0 : FVec F S_ .f32 := constant S_ .f32 0x3F800000#32
  let main_v3 : FVec F S48x224x224 .f32 := broadcastInDim S48x224x224 ![] bcast_S_S48x224x224 main_cst_0
  let main_v4 : FVec F S48x224x224 .f32 := mulf main_v3 main_v2
  let main_cst_1 : FVec F S_ .f32 := constant S_ .f32 0x00000000#32
  let main_v5 : FVec F S48x224x224 .f32 := broadcastInDim S48x224x224 ![] bcast_S_S48x224x224 main_cst_1
  let main_v6 : FVec F S48x224x224 .f32 := addf main_v5 main_v4
  let main_v7 : FVec F S48x224x224 .f32 := (extractStridedSlice S48x224x224 ![0, 0, 1] · slices_S48x226x226_S48x224x224_0_0_1) main_v1
  let main_cst_2 : FVec F S_ .f32 := constant S_ .f32 0x00000000#32
  let main_v8 : FVec F S48x224x224 .f32 := broadcastInDim S48x224x224 ![] bcast_S_S48x224x224 main_cst_2
  let main_v9 : FVec F S48x224x224 .f32 := mulf main_v8 main_v7
  let main_v10 : FVec F S48x224x224 .f32 := addf main_v6 main_v9
  let main_v11 : FVec F S48x224x224 .f32 := (extractStridedSlice S48x224x224 ![0, 0, 2] · slices_S48x226x226_S48x224x224_0_0_2) main_v1
  let main_cst_3 : FVec F S_ .f32 := constant S_ .f32 0xBF800000#32
  let main_v12 : FVec F S48x224x224 .f32 := broadcastInDim S48x224x224 ![] bcast_S_S48x224x224 main_cst_3
  let main_v13 : FVec F S48x224x224 .f32 := mulf main_v12 main_v11
  let main_v14 : FVec F S48x224x224 .f32 := addf main_v10 main_v13
  let main_v15 : FVec F S48x224x224 .f32 := (extractStridedSlice S48x224x224 ![0, 1, 0] · slices_S48x226x226_S48x224x224_0_1_0) main_v1
  let main_cst_4 : FVec F S_ .f32 := constant S_ .f32 0x40000000#32
  let main_v16 : FVec F S48x224x224 .f32 := broadcastInDim S48x224x224 ![] bcast_S_S48x224x224 main_cst_4
  fn_part1 (F := F) main_cst main_v1 main_v14 main_v15 main_v16
-- ==== Kernel.lean ====
abbrev S16x3x224x224 : Shape := ⟨4, ![16, 3, 224, 224]⟩
abbrev S28x224 : Shape := ⟨2, ![28, 224]⟩
abbrev S224x28 : Shape := ⟨2, ![224, 28]⟩
abbrev S48x224x224 : Shape := ⟨3, ![48, 224, 224]⟩
abbrev S16 : Shape := ⟨1, ![16]⟩
abbrev S_ : Shape := ⟨0, ![]⟩
abbrev S16x1 : Shape := ⟨2, ![16, 1]⟩
abbrev S1x16 : Shape := ⟨2, ![1, 16]⟩
abbrev S16x16 : Shape := ⟨2, ![16, 16]⟩
abbrev S1x16x1x16 : Shape := ⟨4, ![1, 16, 1, 16]⟩
abbrev S14x16x14x16 : Shape := ⟨4, ![14, 16, 14, 16]⟩
abbrev S224x224 : Shape := ⟨2, ![224, 224]⟩
abbrev S48x9x4x14x14 : Shape := ⟨5, ![48, 9, 4, 14, 14]⟩
abbrev S16x108x14x14 : Shape := ⟨4, ![16, 108, 14, 14]⟩
abbrev S8x224x224 : Shape := ⟨3, ![8, 224, 224]⟩
abbrev S8x9x4x14x14 : Shape := ⟨5, ![8, 9, 4, 14, 14]⟩
abbrev S1x224x224 : Shape := ⟨3, ![1, 224, 224]⟩
abbrev S1x224 : Shape := ⟨2, ![1, 224]⟩
abbrev S226x224 : Shape := ⟨2, ![226, 224]⟩
abbrev S226x1 : Shape := ⟨2, ![226, 1]⟩
abbrev S226x226 : Shape := ⟨2, ![226, 226]⟩
abbrev S224x226 : Shape := ⟨2, ![224, 226]⟩
abbrev S28x28 : Shape := ⟨2, ![28, 28]⟩
abbrev S14x14 : Shape := ⟨2, ![14, 14]⟩
abbrev S1x1x1x14x14 : Shape := ⟨5, ![1, 1, 1, 14, 14]⟩

abbrev nBuf : Space → Nat
  | .hbm => 33
  | .vmem => 7
  | .smem => 0
  | _ => 0

abbrev bufTy : (tb : Table) → Fin (tcTables nBuf tb) → BufTy
  | .hbm, ⟨0, _⟩ => ⟨S16x3x224x224, .f32⟩
  | .hbm, ⟨1, _⟩ => ⟨S28x224, .f32⟩
  | .hbm, ⟨2, _⟩ => ⟨S224x28, .f32⟩
  | .hbm, ⟨3, _⟩ => ⟨S48x224x224, .f32⟩
  | .hbm, ⟨4, _⟩ => ⟨S16, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S16, .f32⟩
  | .hbm, ⟨18, _⟩ => ⟨S16, .f32⟩
  | .hbm, ⟨19, _⟩ => ⟨S16x1, .f32⟩
  | .hbm, ⟨20, _⟩ => ⟨S1x16, .f32⟩
  | .hbm, ⟨21, _⟩ => ⟨S16x16, .f32⟩
  | .hbm, ⟨22, _⟩ => ⟨S16x16, .f32⟩
  | .hbm, ⟨23, _⟩ => ⟨S16x16, .f32⟩
  | .hbm, ⟨24, _⟩ => ⟨S_, .f32⟩
  | .hbm, ⟨25, _⟩ => ⟨S_, .f32⟩
  | .hbm, ⟨26, _⟩ => ⟨S16x16, .f32⟩
  | .hbm, ⟨27, _⟩ => ⟨S16x16, .f32⟩
  | .hbm, ⟨28, _⟩ => ⟨S1x16x1x16, .f32⟩
  | .hbm, ⟨29, _⟩ => ⟨S14x16x14x16, .f32⟩
  | .hbm, ⟨30, _⟩ => ⟨S224x224, .f32⟩
  | .hbm, ⟨31, _⟩ => ⟨S48x9x4x14x14, .f32⟩
  | .hbm, ⟨32, _⟩ => ⟨S16x108x14x14, .f32⟩
  | .local _ .vmem, ⟨0, _⟩ => ⟨S8x224x224, .f32⟩
  | .local _ .vmem, ⟨1, _⟩ => ⟨S8x224x224, .f32⟩
  | .local _ .vmem, ⟨2, _⟩ => ⟨S224x224, .f32⟩
  | .local _ .vmem, ⟨3, _⟩ => ⟨S28x224, .f32⟩
  | .local _ .vmem, ⟨4, _⟩ => ⟨S224x28, .f32⟩
  | .local _ .vmem, ⟨5, _⟩ => ⟨S8x9x4x14x14, .f32⟩
  | .local _ .vmem, ⟨6, _⟩ => ⟨S8x9x4x14x14, .f32⟩
  | _, _ => ⟨S16x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_call0_cst : Ref sig .tc := ⟨.hbm, 1, rfl⟩
abbrev main_call0_cst_0 : Ref sig .tc := ⟨.hbm, 2, rfl⟩
abbrev main_call0_v0 : Ref sig .tc := ⟨.hbm, 3, rfl⟩
abbrev main_call0_v1 : Ref sig .tc := ⟨.hbm, 4, rfl⟩
abbrev main_call0_cst_1 : Ref sig .tc := ⟨.hbm, 5, rfl⟩
abbrev main_call0_v2 : Ref sig .tc := ⟨.hbm, 6, rfl⟩
abbrev main_call0_cst_2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_cst_3 : Ref sig .tc := ⟨.hbm, 11, rfl⟩
abbrev main_call0_v6 : Ref sig .tc := ⟨.hbm, 12, rfl⟩
abbrev main_call0_v7 : Ref sig .tc := ⟨.hbm, 13, rfl⟩
abbrev main_call0_cst_4 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_v16 : Ref sig .tc := ⟨.hbm, 23, rfl⟩
abbrev main_call0_cst_5 : Ref sig .tc := ⟨.hbm, 24, rfl⟩
abbrev main_call0_v17 : Ref sig .tc := ⟨.hbm, 25, rfl⟩
abbrev main_call0_v18 : Ref sig .tc := ⟨.hbm, 26, rfl⟩
abbrev main_call0_v19 : Ref sig .tc := ⟨.hbm, 27, rfl⟩
abbrev main_call0_v20 : Ref sig .tc := ⟨.hbm, 28, rfl⟩
abbrev main_call0_v21 : Ref sig .tc := ⟨.hbm, 29, rfl⟩
abbrev main_call0_v22 : Ref sig .tc := ⟨.hbm, 30, rfl⟩
abbrev main_call0_v23 : Ref sig .tc := ⟨.hbm, 31, rfl⟩
abbrev main_v0 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S8x224x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S224x224 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S28x224 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S224x28 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x9x4x14x14 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S16x3x224x224 : Shape := ⟨4, ![16, 3, 224, 224]⟩
abbrev S48x224x224 : Shape := ⟨3, ![48, 224, 224]⟩
abbrev S_ : Shape := ⟨0, ![]⟩
abbrev S48x1x224 : Shape := ⟨3, ![48, 1, 224]⟩
abbrev S48x225x224 : Shape := ⟨3, ![48, 225, 224]⟩
abbrev S48x226x224 : Shape := ⟨3, ![48, 226, 224]⟩
abbrev S48x226x1 : Shape := ⟨3, ![48, 226, 1]⟩
abbrev S48x226x225 : Shape := ⟨3, ![48, 226, 225]⟩
abbrev S48x226x226 : Shape := ⟨3, ![48, 226, 226]⟩
abbrev S16 : Shape := ⟨1, ![16]⟩
abbrev S16x1 : Shape := ⟨2, ![16, 1]⟩
abbrev S1x16 : Shape := ⟨2, ![1, 16]⟩
abbrev S16x16 : Shape := ⟨2, ![16, 16]⟩
abbrev S1x16x1x16 : Shape := ⟨4, ![1, 16, 1, 16]⟩
abbrev S14x16x14x16 : Shape := ⟨4, ![14, 16, 14, 16]⟩
abbrev S224x224 : Shape := ⟨2, ![224, 224]⟩
abbrev S1x224x224 : Shape := ⟨3, ![1, 224, 224]⟩
abbrev S48x1x224x224 : Shape := ⟨4, ![48, 1, 224, 224]⟩
abbrev S9 : Shape := ⟨1, ![9]⟩
abbrev S1x9x1x1 : Shape := ⟨4, ![1, 9, 1, 1]⟩
abbrev S48x9x224x224 : Shape := ⟨4, ![48, 9, 224, 224]⟩
abbrev S48x9x28x8x28x8 : Shape := ⟨6, ![48, 9, 28, 8, 28, 8]⟩
abbrev S48x9x28x28 : Shape := ⟨4, ![48, 9, 28, 28]⟩
abbrev S48x28x28 : Shape := ⟨3, ![48, 28, 28]⟩
abbrev S48x1x28x28 : Shape := ⟨4, ![48, 1, 28, 28]⟩
abbrev S16x27x28x28 : Shape := ⟨4, ![16, 27, 28, 28]⟩
abbrev S16x28x28x27 : Shape := ⟨4, ![16, 28, 28, 27]⟩
abbrev S16x14x2x28x27 : Shape := ⟨5, ![16, 14, 2, 28, 27]⟩
abbrev S16x14x28x27x2 : Shape := ⟨5, ![16, 14, 28, 27, 2]⟩
abbrev S16x14x14x2x27x2 : Shape := ⟨6, ![16, 14, 14, 2, 27, 2]⟩
abbrev S16x14x14x27x2x2 : Shape := ⟨6, ![16, 14, 14, 27, 2, 2]⟩
abbrev S16x196x108 : Shape := ⟨3, ![16, 196, 108]⟩
abbrev S16x108x196 : Shape := ⟨3, ![16, 108, 196]⟩
abbrev S16x108x14x14 : Shape := ⟨4, ![16, 108, 14, 14]⟩

abbrev nBuf : Space → Nat
  | .hbm => 211
  | .vmem => 0
  | .smem => 0
  | _ => 0

abbrev hbmTy0_0 (i : Nat) : BufTy := match i % 128 with
  | 0 => ⟨S16x3x224x224, .f32⟩
  | 1 => ⟨S48x224x224, .f32⟩
  | 2 => ⟨S_, .i32⟩
  | 3 => ⟨S48x1x224, .f32⟩
  | 4 => ⟨S48x1x224, .f32⟩
  | 5 => ⟨S48x1x224, .f32⟩
  | 6 => ⟨S48x225x224, .f32⟩
  | 7 => ⟨S48x1x224, .f32⟩
  | 8 => ⟨S48x1x224, .f32⟩
  | 9 => ⟨S48x1x224, .f32⟩
  | 10 => ⟨S48x226x224, .f32⟩
  | 11 => ⟨S48x226x1, .f32⟩
  | 12 => ⟨S48x226x1, .f32⟩
  | 13 => ⟨S48x226x1, .f32⟩
  | 14 => ⟨S48x226x225, .f32⟩
  | 15 => ⟨S48x226x1, .f32⟩
  | 16 => ⟨S48x226x1, .f32⟩
  | 17 => ⟨S48x226x1, .f32⟩
  | 18 => ⟨S48x226x226, .f32⟩
  | 19 => ⟨S48x224x224, .f32⟩
  | 20 => ⟨S_, .f32⟩
  | 21 => ⟨S48x224x224, .f32⟩
  | 22 => ⟨S48x224x224, .f32⟩
  | 23 => ⟨S_, .f32⟩
  | 24 => ⟨S48x224x224, .f32⟩
  | 25 => ⟨S48x224x224, .f32⟩
  | 26 => ⟨S48x224x224, .f32⟩
  | 27 => ⟨S_, .f32⟩
  | 28 => ⟨S48x224x224, .f32⟩
  | 29 => ⟨S48x224x224, .f32⟩
  | 30 => ⟨S48x224x224, .f32⟩
  | 31 => ⟨S48x224x224, .f32⟩
  | 32 => ⟨S_, .f32⟩
  | 33 => ⟨S48x224x224, .f32⟩
  | 34 => ⟨S48x224x224, .f32⟩
  | 35 => ⟨S48x224x224, .f32⟩
  | 36 => ⟨S48x224x224, .f32⟩
  | 37 => ⟨S_, .f32⟩
  | 38 => ⟨S48x224x224, .f32⟩
  | 39 => ⟨S48x224x224, .f32⟩
  | 40 => ⟨S48x224x224, .f32⟩
  | 41 => ⟨S48x224x224, .f32⟩
  | 42 => ⟨S_, .f32⟩
  | 43 => ⟨S48x224x224, .f32⟩
  | 44 => ⟨S48x224x224, .f32⟩
  | 45 => ⟨S48x224x224, .f32⟩
  | 46 => ⟨S48x224x224, .f32⟩
  | 47 => ⟨S_, .f32⟩
  | 48 => ⟨S48x224x224, .f32⟩
  | 49 => ⟨S48x224x224, .f32⟩
  | 50 => ⟨S48x224x224, .f32⟩
  | 51 => ⟨S48x224x224, .f32⟩
  | 52 => ⟨S_, .f32⟩
  | 53 => ⟨S48x224x224, .f32⟩
  | 54 => ⟨S48x224x224, .f32⟩
  | 55 => ⟨S48x224x224, .f32⟩
  | 56 => ⟨S48x224x224, .f32⟩
  | 57 => ⟨S_, .f32⟩
  | 58 => ⟨S48x224x224, .f32⟩
  | 59 => ⟨S48x224x224, .f32⟩
  | 60 => ⟨S48x224x224, .f32⟩
  | 61 => ⟨S48x224x224, .f32⟩
  | 62 => ⟨S_, .f32⟩
  | 63 => ⟨S48x224x224, .f32⟩
  | 64 => ⟨S48x224x224, .f32⟩
  | 65 => ⟨S48x224x224, .f32⟩
  | 66 => ⟨S48x224x224, .f32⟩
  | 67 => ⟨S_, .f32⟩
  | 68 => ⟨S48x224x224, .f32⟩
  | 69 => ⟨S48x224x224, .f32⟩
  | 70 => ⟨S_, .f32⟩
  | 71 => ⟨S48x224x224, .f32⟩
  | 72 => ⟨S48x224x224, .f32⟩
  | 73 => ⟨S48x224x224, .f32⟩
  | 74 => ⟨S_, .f32⟩
  | 75 => ⟨S48x224x224, .f32⟩
  | 76 => ⟨S48x224x224, .f32⟩
  | 77 => ⟨S48x224x224, .f32⟩
  | 78 => ⟨S48x224x224, .f32⟩
  | 79 => ⟨S_, .f32⟩
  | 80 => ⟨S48x224x224, .f32⟩
  | 81 => ⟨S48x224x224, .f32⟩
  | 82 => ⟨S48x224x224, .f32⟩
  | 83 => ⟨S48x224x224, .f32⟩
  | 84 => ⟨S_, .f32⟩
  | 85 => ⟨S48x224x224, .f32⟩
  | 86 => ⟨S48x224x224, .f32⟩
  | 87 => ⟨S48x224x224, .f32⟩
  | 88 => ⟨S48x224x224, .f32⟩
  | 89 => ⟨S_, .f32⟩
  | 90 => ⟨S48x224x224, .f32⟩
  | 91 => ⟨S48x224x224, .f32⟩
  | 92 => ⟨S48x224x224, .f32⟩
  | 93 => ⟨S48x224x224, .f32⟩
  | 94 => ⟨S_, .f32⟩
  | 95 => ⟨S48x224x224, .f32⟩
  | 96 => ⟨S48x224x224, .f32⟩
  | 97 => ⟨S48x224x224, .f32⟩
  | 98 => ⟨S48x224x224, .f32⟩
  | 99 => ⟨S_, .f32⟩
  | 100 => ⟨S48x224x224, .f32⟩
  | 101 => ⟨S48x224x224, .f32⟩
  | 102 => ⟨S48x224x224, .f32⟩
  | 103 => ⟨S48x224x224, .f32⟩
  | 104 => ⟨S_, .f32⟩
  | 105 => ⟨S48x224x224, .f32⟩
  | 106 => ⟨S48x224x224, .f32⟩
  | 107 => ⟨S48x224x224, .f32⟩
  | 108 => ⟨S48x224x224, .f32⟩
  | 109 => ⟨S_, .f32⟩
  | 110 => ⟨S48x224x224, .f32⟩
  | 111 => ⟨S48x224x224, .f32⟩
  | 112 => ⟨S48x224x224, .f32⟩
  | 113 => ⟨S48x224x224, .f32⟩
  | 114 => ⟨S48x224x224, .f32⟩
  | 115 => ⟨S48x224x224, .f32⟩
  | 116 => ⟨S48x224x224, .f32⟩
  | 117 => ⟨S_, .f32⟩
  | 118 => ⟨S_, .f32⟩
  | 119 => ⟨S48x224x224, .f32⟩
  | 120 => ⟨S48x224x224, .f32⟩
  | 121 => ⟨S48x224x224, .f32⟩
  | 122 => ⟨S_, .f32⟩
  | 123 => ⟨S48x224x224, .f32⟩
  | 124 => ⟨S48x224x224, .f32⟩
  | 125 => ⟨S16, .f32⟩
  | 126 => ⟨S_, .f32⟩
  | 127 => ⟨S_, .f32⟩
  | _ => ⟨S16x3x224x224, .f32⟩

abbrev hbmTy0_1 (i : Nat) : BufTy := match i % 128 with
  | 0 => ⟨S_, .f32⟩
  | 1 => ⟨S_, .f32⟩
  | 2 => ⟨S16, .f32⟩
  | 3 => ⟨S16, .f32⟩
  | 4 => ⟨S_, .f32⟩
  | 5 => ⟨S16, .f32⟩
  | 6 => ⟨S16, .f32⟩
  | 7 => ⟨S16, .f32⟩
  | 8 => ⟨S_, .f32⟩
  | 9 => ⟨S16, .f32⟩
  | 10 => ⟨S16, .f32⟩
  | 11 => ⟨S16, .f32⟩
  | 12 => ⟨S16x1, .f32⟩
  | 13 => ⟨S1x16, .f32⟩
  | 14 => ⟨S16x16, .f32⟩
  | 15 => ⟨S16x16, .f32⟩
  | 16 => ⟨S16x16, .f32⟩
  | 17 => ⟨S_, .f32⟩
  | 18 => ⟨S_, .f32⟩
  | 19 => ⟨S16x16, .f32⟩
  | 20 => ⟨S16x16, .f32⟩
  | 21 => ⟨S1x16x1x16, .f32⟩
  | 22 => ⟨S14x16x14x16, .f32⟩
  | 23 => ⟨S224x224, .f32⟩
  | 24 => ⟨S1x224x224, .f32⟩
  | 25 => ⟨S48x224x224, .f32⟩
  | 26 => ⟨S48x224x224, .f32⟩
  | 27 => ⟨S48x224x224, .f32⟩
  | 28 => ⟨S48x224x224, .i32⟩
  | 29 => ⟨S_, .i32⟩
  | 30 => ⟨S_, .i32⟩
  | 31 => ⟨S_, .i32⟩
  | 32 => ⟨S_, .i1⟩
  | 33 => ⟨S_, .i32⟩
  | 34 => ⟨S_, .i32⟩
  | 35 => ⟨S48x224x224, .i32⟩
  | 36 => ⟨S48x224x224, .i32⟩
  | 37 => ⟨S_, .i32⟩
  | 38 => ⟨S48x224x224, .i32⟩
  | 39 => ⟨S48x224x224, .i1⟩
  | 40 => ⟨S_, .i32⟩
  | 41 => ⟨S48x224x224, .i32⟩
  | 42 => ⟨S48x224x224, .i1⟩
  | 43 => ⟨S_, .i32⟩
  | 44 => ⟨S_, .i1⟩
  | 45 => ⟨S48x224x224, .i1⟩
  | 46 => ⟨S48x224x224, .i1⟩
  | 47 => ⟨S48x224x224, .i1⟩
  | 48 => ⟨S48x224x224, .i32⟩
  | 49 => ⟨S48x224x224, .i32⟩
  | 50 => ⟨S48x224x224, .i32⟩
  | 51 => ⟨S48x1x224x224, .i32⟩
  | 52 => ⟨S9, .i32⟩
  | 53 => ⟨S1x9x1x1, .i32⟩
  | 54 => ⟨S48x9x224x224, .i32⟩
  | 55 => ⟨S48x9x224x224, .i32⟩
  | 56 => ⟨S48x9x224x224, .i1⟩
  | 57 => ⟨S48x9x224x224, .f32⟩
  | 58 => ⟨S48x1x224x224, .f32⟩
  | 59 => ⟨S48x9x224x224, .f32⟩
  | 60 => ⟨S48x9x224x224, .f32⟩
  | 61 => ⟨S48x9x28x8x28x8, .f32⟩
  | 62 => ⟨S_, .f32⟩
  | 63 => ⟨S48x9x28x28, .f32⟩
  | 64 => ⟨S48x9x28x28, .f32⟩
  | 65 => ⟨S_, .f32⟩
  | 66 => ⟨S48x28x28, .f32⟩
  | 67 => ⟨S48x1x28x28, .f32⟩
  | 68 => ⟨S48x1x28x28, .f32⟩
  | 69 => ⟨S_, .f32⟩
  | 70 => ⟨S48x1x28x28, .f32⟩
  | 71 => ⟨S48x1x28x28, .f32⟩
  | 72 => ⟨S48x9x28x28, .f32⟩
  | 73 => ⟨S48x9x28x28, .f32⟩
  | 74 => ⟨S16x27x28x28, .f32⟩
  | 75 => ⟨S16x28x28x27, .f32⟩
  | 76 => ⟨S16x14x2x28x27, .f32⟩
  | 77 => ⟨S16x14x28x27x2, .f32⟩
  | 78 => ⟨S16x14x14x2x27x2, .f32⟩
  | 79 => ⟨S16x14x14x27x2x2, .f32⟩
  | 80 => ⟨S16x196x108, .f32⟩
  | 81 => ⟨S16x108x196, .f32⟩
  | 82 => ⟨S16x108x14x14, .f32⟩
  | _ => ⟨S16x3x224x224, .f32⟩

abbrev hbmTy (i : Nat) : BufTy := match i / 128 with
  | 0 => hbmTy0_0 i
  | 1 => hbmTy0_1 i
  | _ => ⟨S16x3x224x224, .f32⟩

abbrev bufTy : (tb : Table) → Fin (tcTables nBuf tb) → BufTy
  | .hbm, ⟨i, _⟩ => hbmTy i
  | _, _ => ⟨S16x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_v9 : Ref sig .tc := ⟨.hbm, 12, rfl⟩
abbrev main_call0_v10 : Ref sig .tc := ⟨.hbm, 13, rfl⟩
abbrev main_call0_v11 : Ref sig .tc := ⟨.hbm, 14, rfl⟩
abbrev main_call0_v12 : Ref sig .tc := ⟨.hbm, 15, rfl⟩
abbrev main_call0_v13 : Ref sig .tc := ⟨.hbm, 16, rfl⟩
abbrev main_call0_v14 : Ref sig .tc := ⟨.hbm, 17, rfl⟩
abbrev main_v1 : Ref sig .tc := ⟨.hbm, 18, rfl⟩
abbrev main_v2 : Ref sig .tc := ⟨.hbm, 19, rfl⟩
abbrev main_cst : Ref sig .tc := ⟨.hbm, 20, rfl⟩
abbrev main_v3 : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_2 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst_3 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_4 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_5 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_6 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_7 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_8 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_9 : Ref sig .tc := ⟨.hbm, 67, rfl⟩
abbrev main_v40 : Ref sig .tc := ⟨.hbm, 68, rfl⟩
abbrev main_v41 : Ref sig .tc := ⟨.hbm, 69, rfl⟩
abbrev main_cst_10 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_11 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_12 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_13 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_14 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_15 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_16 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_17 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_cst_18 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_cst_19 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_cst_20 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_cst_21 : Ref sig .tc := ⟨.hbm, 126, rfl⟩
abbrev main_v87 : Ref sig .tc := ⟨.hbm, 127, rfl⟩
abbrev main_cst_22 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_cst_23 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_cst_24 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_cst_25 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_c_26 : Ref sig .tc := ⟨.hbm, 157, rfl⟩
abbrev main_call1_v0 : Ref sig .tc := ⟨.hbm, 158, rfl⟩
abbrev main_call1_c : Ref sig .tc := ⟨.hbm, 159, rfl⟩
abbrev main_call1_v1 : Ref sig .tc := ⟨.hbm, 160, rfl⟩
abbrev main_call1_c_0 : Ref sig .tc := ⟨.hbm, 161, rfl⟩
abbrev main_call1_v2 : Ref sig .tc := ⟨.hbm, 162, rfl⟩
abbrev main_call1_v3 : Ref sig .tc := ⟨.hbm, 163, rfl⟩
abbrev main_call1_v4 : Ref sig .tc := ⟨.hbm, 164, rfl⟩
abbrev main_call1_c_1 : Ref sig .tc := ⟨.hbm, 165, rfl⟩
abbrev main_call1_v5 : Ref sig .tc := ⟨.hbm, 166, rfl⟩
abbrev main_call1_v6 : Ref sig .tc := ⟨.hbm, 167, rfl⟩
abbrev main_call1_c_2 : Ref sig .tc := ⟨.hbm, 168, rfl⟩
abbrev main_call1_v7 : Ref sig .tc := ⟨.hbm, 169, rfl⟩
abbrev main_call1_v8 : Ref sig .tc := ⟨.hbm, 170, rfl⟩
abbrev main_call1_c_3 : Ref sig .tc := ⟨.hbm, 171, rfl⟩
abbrev main_call1_v9 : Ref sig .tc := ⟨.hbm, 172, rfl⟩
abbrev main_call1_v10 : Ref sig .tc := ⟨.hbm, 173, rfl⟩
abbrev main_call1_v11 : Ref sig .tc := ⟨.hbm, 174, rfl⟩
abbrev main_call1_v12 : Ref sig .tc := ⟨.hbm, 175, rfl⟩
abbrev main_call1_v13 : Ref sig .tc := ⟨.hbm, 176, rfl⟩
abbrev main_call1_v14 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_cst_27 : Ref sig .tc := ⟨.hbm, 190, rfl⟩
abbrev main_v125 : Ref sig .tc := ⟨.hbm, 191, rfl⟩
abbrev main_v126 : Ref sig .tc := ⟨.hbm, 192, rfl⟩
abbrev main_cst_28 : Ref sig .tc := ⟨.hbm, 193, rfl⟩
abbrev main_v127 : Ref sig .tc := ⟨.hbm, 194, rfl⟩
abbrev main_v128 : Ref sig .tc := ⟨.hbm, 195, rfl⟩
abbrev main_v129 : Ref sig .tc := ⟨.hbm, 196, rfl⟩
abbrev main_cst_29 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_v133 : Ref sig .tc := ⟨.hbm, 201, rfl⟩
abbrev main_v134 : Ref sig .tc := ⟨.hbm, 202, rfl⟩
abbrev main_v135 : Ref sig .tc := ⟨.hbm, 203, rfl⟩
abbrev main_v136 : Ref sig .tc := ⟨.hbm, 204, rfl⟩
abbrev main_v137 : Ref sig .tc := ⟨.hbm, 205, rfl⟩
abbrev main_v138 : Ref sig .tc := ⟨.hbm, 206, rfl⟩
abbrev main_v139 : Ref sig .tc := ⟨.hbm, 207, rfl⟩
abbrev main_v140 : Ref sig .tc := ⟨.hbm, 208, rfl⟩
abbrev main_v141 : Ref sig .tc := ⟨.hbm, 209, rfl⟩
abbrev main_v142 : Ref sig .tc := ⟨.hbm, 210, rfl⟩

abbrev nD : Nat := 1
abbrev τ : Topo := Topo.v7x

variable {F : FTy → Type} [FloatOps F]
-- ==== Proof.Tile.lean ====
/-
  The kernel's work on one image, as functions of whole vectors: the padded image, the two gradients, the
  weighted magnitude, the bin of every pixel, the pooled histogram of a bin, the divisor, and the 14x14 tile
  that one store writes. The body does this for each of eight images; the functions here say it once.
-/
module

public import proofs.«01_k».proof.Proof.Gen.KernelIdeal
public import Idealize.ShloMosaic.Lib.Pipeline.FrameBody
public import Idealize.ShloMosaic.Lib.Pipeline.Value

@[expose] public section

noncomputable section

namespace Cert.Hog

open Idealize.ShloMosaic Idealize.SL.Sem
open Cert.KernelIdeal Cert.KernelIdeal.Gen

variable {F : FTy → Type} [FloatOps F]

/-- The image with one reflected row and column on each side. -/
def padded (x : Vec F S1x224x224 .f32) : FVec F S226x226 .f32 :=
  let y : FVec F S224x224 .f32 := extf .f32 (truncf .bf16 (shapeCast S224x224 x shapeCasts_S1x224x224_S224x224) bitsLt_bf16_f32) bitsLt_bf16_f32
  let r : FVec F S226x224 .f32 := concatenate S226x224 0
    [⟨S1x224, extractStridedSlice S1x224 ![1, 0] y slices_S224x224_o1_0_S1x224⟩, ⟨S224x224, y⟩,
      ⟨S1x224, extractStridedSlice S1x224 ![222, 0] y slices_S224x224_o222_0_S1x224⟩] concatenates_S1x224_S224x224_S1x224_S226x224_d0
  concatenate S226x226 1
    [⟨S226x1, extractStridedSlice S226x1 ![0, 1] r slices_S226x224_o0_1_S226x1⟩, ⟨S226x224, r⟩,
      ⟨S226x1, extractStridedSlice S226x1 ![0, 222] r slices_S226x224_o0_222_S226x1⟩] concatenates_S226x1_S226x224_S226x1_S226x226_d1

/-- The gradient across columns: rows smoothed by 1, 2, 1, then columns two apart subtracted. -/
def gradX (p : FVec F S226x226 .f32) : FVec F S224x224 .f32 :=
  let v : FVec F S224x226 .f32 := addf (addf (extractStridedSlice S224x226 ![0, 0] p slices_S226x226_o0_0_S224x226)
    (mulf (broadcast S224x226 (Scalar.ofBits .f32 0x40000000#32)) (extractStridedSlice S224x226 ![1, 0] p slices_S226x226_o1_0_S224x226)))
    (extractStridedSlice S224x226 ![2, 0] p slices_S226x226_o2_0_S224x226)
  subf (extractStridedSlice S224x224 ![0, 0] v slices_S224x226_o0_0_S224x224)
    (extractStridedSlice S224x224 ![0, 2] v slices_S224x226_o0_2_S224x224)

/-- The gradient across rows: columns smoothed by 1, 2, 1, then rows two apart subtracted. -/
def gradY (p : FVec F S226x226 .f32) : FVec F S224x224 .f32 :=
  let h : FVec F S226x224 .f32 := addf (addf (extractStridedSlice S226x224 ![0, 0] p slices_S226x226_o0_0_S226x224)
    (mulf (broadcast S226x224 (Scalar.ofBits .f32 0x40000000#32)) (extractStridedSlice S226x224 ![0, 1] p slices_S226x226_o0_1_S226x224)))
    (extractStridedSlice S226x224 ![0, 2] p slices_S226x226_o0_2_S226x224)
  subf (extractStridedSlice S224x224 ![0, 0] h slices_S226x224_o0_0_S224x224)
    (extractStridedSlice S224x224 ![2, 0] h slices_S226x224_o2_0_S224x224)

/-- The gradient's magnitude times the window. -/
def weighted (gk : Vec F S224x224 .f32) (gx gy : FVec F S224x224 .f32) : FVec F S224x224 .f32 :=
  mulf (sqrt (addf (mulf gx gx) (mulf gy gy))) (shapeCast S224x224 gk shapeCasts_S224x224_S224x224)

/-- One edge's contribution to the bin: one where the ratio is at least the edge. -/
def past (t : FVec F S224x224 .f32) (w : BitVec 32) : IVec S224x224 32 :=
  extui 32 (cmpf .oge t (broadcast S224x224 (Scalar.ofBits .f32 w))) natLt_1_32

/-- The bin of every pixel, from the ratio of its gradients. -/
def binOf (t : FVec F S224x224 .f32) : IVec S224x224 32 :=
  addi (addi (addi (addi (addi (addi (addi (addi
    (select (cmpf .olt t (broadcast S224x224 (Scalar.ofBits .f32 0x00000000#32)))
      (broadcast S224x224 4#32) (broadcast S224x224 4294967292#32))
    (past t 0x3EBA5A4E#32)) (past t 0x3F56CF3C#32)) (past t 0x3FDDB3D7#32)) (past t 0x40B57B24#32))
    (past t 0xC0B57B24#32)) (past t 0xBFDDB3D7#32)) (past t 0xBF56CF3C#32)) (past t 0xBEBA5A4E#32)

/-- One bin's histogram: the weighted magnitudes of its pixels, summed over cells by two 0/1 matrices. -/
def pooled (pl : Vec F S28x224 .f32) (pr : Vec F S224x28 .f32) (v : FVec F S224x224 .f32) (b : IVec S224x224 32)
    (k : BitVec 32) : FVec F S28x28 .f32 :=
  matmul dot_S28x224_S224x28_S28x28_1_0_0_1_n_n none
    (matmul dot_S28x224_S224x224_S28x224_1_0_0_1_n_n none pl
      (select (cmpi .eq b (broadcast S224x224 k)) v (broadcast S224x224 (Scalar.ofBits .f32 0x00000000#32)))
      (constant S28x224 .f32 0x00000000#32))
    pr (constant S28x28 .f32 0x00000000#32)

/-- The sum of the squares of nine histograms. -/
def energy (h : BitVec 32 → FVec F S28x28 .f32) : FVec F S28x28 .f32 :=
  addf (addf (addf (addf (addf (addf (addf (addf (addf (broadcast S28x28 (Scalar.ofBits .f32 0x00000000#32))
    (mulf (h 0#32) (h 0#32))) (mulf (h 1#32) (h 1#32))) (mulf (h 2#32) (h 2#32))) (mulf (h 3#32) (h 3#32)))
    (mulf (h 4#32) (h 4#32))) (mulf (h 5#32) (h 5#32))) (mulf (h 6#32) (h 6#32))) (mulf (h 7#32) (h 7#32)))
    (mulf (h 8#32) (h 8#32))

/-- The divisor: the root of the energy, at least 1e-12. -/
def divisor (s : FVec F S28x28 .f32) : FVec F S28x28 .f32 :=
  maximumf (sqrt s) (broadcast S28x28 (Scalar.ofBits .f32 0x2B8CBCCC#32))

/-- The histogram of bin `k` of an image, before it is divided. -/
def hist (x : Vec F S1x224x224 .f32) (gk : Vec F S224x224 .f32) (pl : Vec F S28x224 .f32) (pr : Vec F S224x28 .f32)
    (k : BitVec 32) : FVec F S28x28 .f32 :=
  pooled pl pr (weighted gk (gradX (padded x)) (gradY (padded x))) (binOf (divf (gradX (padded x)) (gradY (padded x)))) k

/-- The histogram of bin `k` of an image, divided. -/
def ratio (x : Vec F S1x224x224 .f32) (gk : Vec F S224x224 .f32) (pl : Vec F S28x224 .f32) (pr : Vec F S224x28 .f32)
    (k : BitVec 32) : FVec F S28x28 .f32 :=
  divf (hist x gk pl pr k) (divisor (energy (hist x gk pl pr)))

/-- The 14x14 tiles of a histogram, one per quadrant. -/
def quad0 (h : FVec F S28x28 .f32) : FVec F S1x1x1x14x14 .f32 :=
  shapeCast S1x1x1x14x14 (extractStridedSlice S14x14 ![0, 0] h slices_S28x28_o0_0_S14x14) shapeCasts_S14x14_S1x1x1x14x14
@[inherit_doc quad0] def quad1 (h : FVec F S28x28 .f32) : FVec F S1x1x1x14x14 .f32 :=
  shapeCast S1x1x1x14x14 (extractStridedSlice S14x14 ![0, 14] h slices_S28x28_o0_14_S14x14) shapeCasts_S14x14_S1x1x1x14x14
@[inherit_doc quad0] def quad2 (h : FVec F S28x28 .f32) : FVec F S1x1x1x14x14 .f32 :=
  shapeCast S1x1x1x14x14 (extractStridedSlice S14x14 ![14, 0] h slices_S28x28_o14_0_S14x14) shapeCasts_S14x14_S1x1x1x14x14
@[inherit_doc quad0] def quad3 (h : FVec F S28x28 .f32) : FVec F S1x1x1x14x14 .f32 :=
  shapeCast S1x1x1x14x14 (extractStridedSlice S14x14 ![14, 14] h slices_S28x28_o14_14_S14x14) shapeCasts_S14x14_S1x1x1x14x14

/-- Where the tile of image `g`, bin `k`, quadrant `q` lies in the block. -/
def tileAt (g : Fin 8) (k : Fin 9) (q : Fin 4) : Rect S8x9x4x14x14 :=
  Rect.unit (s := S8x9x4x14x14) ![g.val, k.val, q.val, 0, 0] S1x1x1x14x14.size (by
    have hg := g.isLt; have hk := k.isLt; have hq := q.isLt
    intro a; fin_cases a <;> simp <;> omega)

/-- Where image `g` lies in the block. -/
def imageAt (g : Fin 8) : Rect S8x224x224 :=
  Rect.unit (s := S8x224x224) ![g.val, 0, 0] S1x224x224.size (by
    have hg := g.isLt
    intro a; fin_cases a <;> simp <;> omega)

/-- The stores of one bin of one image, the last first, before the stores `L`. -/
def binTiles (g : Fin 8) (k : Fin 9) (h : FVec F S28x28 .f32) (L : List (View.Piece (Elt F) S8x9x4x14x14 .f32)) :
    List (View.Piece (Elt F) S8x9x4x14x14 .f32) :=
  ⟨tileAt g k 3, quad3 h⟩ :: ⟨tileAt g k 2, quad2 h⟩ :: ⟨tileAt g k 1, quad1 h⟩ :: ⟨tileAt g k 0, quad0 h⟩ :: L

/-- The stores of one image, the last first, before the stores `L`. -/
def imageTiles (g : Fin 8) (h : BitVec 32 → FVec F S28x28 .f32) (L : List (View.Piece (Elt F) S8x9x4x14x14 .f32)) :
    List (View.Piece (Elt F) S8x9x4x14x14 .f32) :=
  binTiles g 8 (h 8#32) <| binTiles g 7 (h 7#32) <| binTiles g 6 (h 6#32) <| binTiles g 5 (h 5#32) <|
    binTiles g 4 (h 4#32) <| binTiles g 3 (h 3#32) <| binTiles g 2 (h 2#32) <| binTiles g 1 (h 1#32) <|
    binTiles g 0 (h 0#32) L

/-- A list of stores is one image's and the rest when its head is and its tail is the rest. -/
theorem imageTiles_step {g : Fin 8} {h : BitVec 32 → FVec F S28x28 .f32}
    {L M M' : List (View.Piece (Elt F) S8x9x4x14x14 .f32)} (e : L = imageTiles g h M) (t : M = M') :
    L = imageTiles g h M' := e.trans (congrArg (imageTiles g h) t)

/-- Every store of the body, the last first: the eight images' in turn. -/
def tiles (h : Fin 8 → BitVec 32 → FVec F S28x28 .f32) : List (View.Piece (Elt F) S8x9x4x14x14 .f32) :=
  imageTiles 7 (h 7) <| imageTiles 6 (h 6) <| imageTiles 5 (h 5) <| imageTiles 4 (h 4) <| imageTiles 3 (h 3) <|
    imageTiles 2 (h 2) <| imageTiles 1 (h 1) <| imageTiles 0 (h 0) []

/-- One store of one bin is among them. -/
theorem mem_binTiles (g : Fin 8) (k : Fin 9) (h : FVec F S28x28 .f32) (L : List (View.Piece (Elt F) S8x9x4x14x14 .f32))
    (q : Fin 4) : ∃ p ∈ binTiles g k h L, p.1 = tileAt g k q := by
  unfold binTiles
  fin_cases q <;> simp

/-- What was stored before is still among them. -/
theorem mem_binTiles_of {g : Fin 8} {k : Fin 9} {h : FVec F S28x28 .f32} {L : List (View.Piece (Elt F) S8x9x4x14x14 .f32)}
    {r : Rect S8x9x4x14x14} (hr : ∃ p ∈ L, p.1 = r) : ∃ p ∈ binTiles g k h L, p.1 = r := by
  obtain ⟨p, hp, e⟩ := hr
  exact ⟨p, by unfold binTiles; simp [hp], e⟩

/-- One store of one image is among its stores. -/
theorem mem_imageTiles (g : Fin 8) (h : BitVec 32 → FVec F S28x28 .f32) (L : List (View.Piece (Elt F) S8x9x4x14x14 .f32))
    (k : Fin 9) (q : Fin 4) : ∃ p ∈ imageTiles g h L, p.1 = tileAt g k q := by
  unfold imageTiles
  fin_cases k <;> repeat (first | exact mem_binTiles g _ _ _ q | apply mem_binTiles_of)

/-- What was stored before an image is still among the stores. -/
theorem mem_imageTiles_of {g : Fin 8} {h : BitVec 32 → FVec F S28x28 .f32} {L : List (View.Piece (Elt F) S8x9x4x14x14 .f32)}
    {r : Rect S8x9x4x14x14} (hr : ∃ p ∈ L, p.1 = r) : ∃ p ∈ imageTiles g h L, p.1 = r := by
  unfold imageTiles
  iterate 9 apply mem_binTiles_of
  exact hr

/-- Every tile is among the body's stores. -/
theorem mem_tiles (h : Fin 8 → BitVec 32 → FVec F S28x28 .f32) (g : Fin 8) (k : Fin 9) (q : Fin 4) :
    ∃ p ∈ tiles h, p.1 = tileAt g k q := by
  unfold tiles
  fin_cases g <;> repeat (first | exact mem_imageTiles _ _ _ k q | apply mem_imageTiles_of)

/-- The tiles cover the block. -/
theorem tiles_cover (h : Fin 8 → BitVec 32 → FVec F S28x28 .f32) (y : S8x9x4x14x14.Idx) : ∃ p ∈ tiles h, y ∈ p.1.set := by
  obtain ⟨p, hp, e⟩ := mem_tiles h (y 0) (y 1) (y 2)
  refine ⟨p, hp, ?_⟩
  rw [e]
  refine Rect.mem_set_unit.2 fun a => ?_
  have h3 := (y 3).isLt
  have h4 := (y 4).isLt
  fin_cases a <;> simp <;> first | omega | exact h3 | exact h4

/-- The nine divided histograms of image `g` of a block. -/
def blockRatio (x0 : Vec F S8x224x224 .f32) (x1 : Vec F S224x224 .f32) (x2 : Vec F S28x224 .f32) (x3 : Vec F S224x28 .f32)
    (g : Fin 8) : BitVec 32 → FVec F S28x28 .f32 :=
  ratio (View.ld x0 (imageAt g))
    (View.ld x1 (Rect.unit (s := S224x224) ![0, 0] S224x224.size inb_S224x224_S224x224_0_0))
    (View.ld x2 (Rect.unit (s := S28x224) ![0, 0] S28x224.size inb_S28x224_S28x224_0_0))
    (View.ld x3 (Rect.unit (s := S224x28) ![0, 0] S224x28.size inb_S224x28_S224x28_0_0))

/-- What the body leaves in its block of the result, from its four input blocks. -/
def blockOut (x0 : Vec F S8x224x224 .f32) (x1 : Vec F S224x224 .f32) (x2 : Vec F S28x224 .f32) (x3 : Vec F S224x28 .f32) :
    Vec F S8x9x4x14x14 .f32 :=
  View.canon (tiles (blockRatio x0 x1 x2 x3))

end Cert.Hog
-- ==== Proof.KernelIdealFrame.lean ====
/-
  The frame of `KernelIdeal`: @main around its one region, the contents of the windows' blocks, the body's triple with the
  result block as `Cert.Hog.blockOut` of the input blocks, the run and the frame claim. The stores of the body
  number 288; their cover is `Cert.Hog.tiles_cover`.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Tile
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Hog

open Idealize.ShloMosaic Idealize.ShloMosaic.TcCoe Idealize.ShloMosaic.Tactic
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_KernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (((h c).2 main_arg0 (Pipeline.mem_restRefs_of main_arg0 (by decide) (by decide))).trans (W_main_arg0 m dats c))) h

/-! ## The body's triple -/

set_option maxHeartbeats 19486100 in
/-- The kernel body on whole staging memrefs, the inputs' at read contents `xW` and the outputs' at anything, runs to
    the continuation holding the inputs' as they were and each output's at `blockOut` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S8x224x224 .f32) (harg1 : arg1.IsWhole) (arg2 : Memref sig .tc .vmem S224x224 .f32) (harg2 : arg2.IsWhole) (arg3 : Memref sig .tc .vmem S28x224 .f32) (harg3 : arg3.IsWhole) (arg4 : Memref sig .tc .vmem S224x28 .f32) (harg4 : arg4.IsWhole) (arg5 : Memref sig .tc .vmem S8x9x4x14x14 .f32) (harg5 : arg5.IsWhole)
    (x0 : Vec F S8x224x224 .f32) (x1 : Vec F S224x224 .f32) (x2 : Vec F S28x224 .f32) (x3 : Vec F S224x28 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (Cert.Hog.blockOut x0 x1 x2 x3)) -∗ K ⟨⟩))
      ⊢ wp frame (wpE (defs₀ (F := F)) Variants.none c none) E (cc0__hog_kernel i arg1 harg1 arg2 harg2 arg3 harg3 arg4 harg4 arg5 harg5) K := by
  simp only [cc0__hog_kernel_eq_skeleton]; unfold cc0__hog_kernel_skel
  simp only [k0_part77_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  unfold Cert.Hog.blockOut
  have hc := Cert.Hog.tiles_cover (Cert.Hog.blockRatio (View.read (Elt F) arg1.view f0) (View.read (Elt F) arg2.view f1)
    (View.read (Elt F) arg3.view f2) (View.read (Elt F) arg4.view f3))
  generalize hL : Cert.Hog.tiles (Cert.Hog.blockRatio (View.read (Elt F) arg1.view f0) (View.read (Elt F) arg2.view f1)
    (View.read (Elt F) arg3.view f2) (View.read (Elt F) arg4.view f3)) = L at hc ⊢
  refine Eq.trans (congrArg (fun L => arg5.view.read (Elt F) (arg5.view.writes (Elt F) f4 L)) ?_)
    (View.read_writes_eq_canon arg5.view f4 L hc)
  rw [← hL]
  unfold Cert.Hog.tiles
  iterate 8 refine Cert.Hog.imageTiles_step rfl ?_
  rfl

/-! ## The pipeline's proof data -/

/-- The proof data of the one pipeline on core `c`: the arrays as the region finds them (`V`); after the body at
    point `t` each input's buffer at its block and each output's at `blockOut` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => Cert.Hog.blockOut (iblk m c 0 t) (iblk m c 1 t) (iblk m c 2 t) (iblk m c 3 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = Cert.Hog.blockOut (iblk m c 0 t) (iblk m c 1 t) (iblk m c 2 t) (iblk m c 3 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Hog.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

end Cert.KernelIdeal.Hog

end
-- ==== Proof.Angle.lean ====
/-
  The bin of one pixel. The kernel counts how many edges the ratio of the two gradients has passed; the reference
  takes the angle of the gradient, scales it to nine bins per half turn, rounds down and reduces modulo nine. The two
  agree wherever the kernel's edges separate the ratio as the tangents of the multiples of a ninth of a half turn do.
-/
module

public import Idealize.ShloMosaic.Lib.Pipeline.Value
public import Idealize.ShloMosaic.PureOps.Ideal.Laws
public import Idealize.ShloMosaic.Lib.IdealHost

@[expose] public section

noncomputable section

namespace Cert.Hog

open Idealize.ShloMosaic

/-- The words of the kernel's eight edges, in the order it counts them. -/
def edgeWord : Fin 8 → BitVec 32 :=
  ![0x3EBA5A4E#32, 0x3F56CF3C#32, 0x3FDDB3D7#32, 0x40B57B24#32, 0xC0B57B24#32, 0xBFDDB3D7#32, 0xBF56CF3C#32, 0xBEBA5A4E#32]

/-- One where the ratio has passed the edge of word `w`. -/
def pastWord (t : EReal) (w : BitVec 32) : BitVec 32 :=
  (Ideal.cmp .oge t (Ideal.ofBits .f32 w)).setWidth 32

/-- The kernel's bin of a ratio. -/
def countBin (t : EReal) : BitVec 32 :=
  IntOp.addi (IntOp.addi (IntOp.addi (IntOp.addi (IntOp.addi (IntOp.addi (IntOp.addi (IntOp.addi
    (Scalar.select (Ideal.cmp .olt t (Ideal.ofBits .f32 0x00000000#32)) 4#32 4294967292#32)
    (pastWord t 0x3EBA5A4E#32)) (pastWord t 0x3F56CF3C#32)) (pastWord t 0x3FDDB3D7#32)) (pastWord t 0x40B57B24#32))
    (pastWord t 0xC0B57B24#32)) (pastWord t 0xBFDDB3D7#32)) (pastWord t 0xBF56CF3C#32)) (pastWord t 0xBEBA5A4E#32)

/-- The divisor of the reference's remainder: nine, or one were it zero. -/
def nine : BitVec 32 := Scalar.select (IntOp.cmpi .eq 9#32 0#32) 1#32 9#32

/-- The reference's remainder by nine, with the sign of the divisor. -/
def modNine (b : BitVec 32) : BitVec 32 :=
  Scalar.select (IntOp.andi (IntOp.cmpi .ne (IntOp.cmpi .slt (IntOp.remsi .host b nine) 0#32) (IntOp.cmpi .slt nine 0#32))
      (IntOp.cmpi .ne (IntOp.remsi .host b nine) 0#32))
    (IntOp.addi (IntOp.remsi .host b nine) nine) (IntOp.remsi .host b nine)

/-- The reference's bin of a pair of gradients. -/
def angleBin (gx gy : EReal) : BitVec 32 :=
  modNine (Ideal.fptosi 32 (Ideal.liftRound Int.floor
    (Ideal.div (Ideal.atan2 gx gy) (Ideal.acos (Ideal.ofBits .f32 0xBF800000#32)) * Ideal.ofBits .f32 0x41100000#32)))

/-- The edge the precondition writes for the `m`-th word: the tangent of `m + 1` ninths of a half turn. -/
def exactEdge (m : Fin 8) : EReal :=
  Ideal.tan (Ideal.div ((Ideal.ofBits .f32 0x3F800000#32 + (((BitVec.ofNat 32 m.val).toInt : ℝ) : EReal)) *
    Ideal.acos (Ideal.ofBits .f32 0xBF800000#32)) (Ideal.ofBits .f32 0x41100000#32))

/-- The constants one, minus one, two, minus two and nine. -/
theorem lit_neg_one : Ideal.ofBits .f32 0xBF800000#32 = ((-1 : ℝ) : EReal) := by
  simp [Ideal.ofBits, Ideal.ieee]; rw [← EReal.coe_mul]; norm_num
@[inherit_doc lit_neg_one] theorem lit_one : Ideal.ofBits .f32 0x3F800000#32 = ((1 : ℝ) : EReal) := by
  simp
@[inherit_doc lit_neg_one] theorem lit_two : Ideal.ofBits .f32 0x40000000#32 = ((2 : ℝ) : EReal) := by
  simp [Ideal.ofBits, Ideal.ieee]; rw [← EReal.coe_mul]; norm_num
@[inherit_doc lit_neg_one] theorem lit_neg_two : Ideal.ofBits .f32 0xC0000000#32 = ((-2 : ℝ) : EReal) := by
  simp [Ideal.ofBits, Ideal.ieee]; rw [← EReal.coe_mul]; norm_num
@[inherit_doc lit_neg_one] theorem lit_nine : Ideal.ofBits .f32 0x41100000#32 = ((9 : ℝ) : EReal) := by
  simp [Ideal.ofBits, Ideal.ieee]; rw [← EReal.coe_mul]; norm_num

/-- The arc cosine of minus one is half a turn. -/
theorem half_turn : Ideal.acos (Ideal.ofBits .f32 0xBF800000#32) = ((Real.pi : ℝ) : EReal) := by
  rw [lit_neg_one, Ideal.acos_coe, if_pos (by norm_num), Real.arccos_neg_one]

/-- Division of reals by a real other than zero. -/
theorem div_coe {x y : ℝ} (h : y ≠ 0) : Ideal.div (x : EReal) (y : EReal) = ((x / y : ℝ) : EReal) := by
  unfold Ideal.div
  rw [if_neg (by exact_mod_cast h), div_eq_mul_inv, EReal.coe_mul, EReal.coe_inv]

/-- The angle of a point of the plane, by quadrant. -/
theorem atan2_coe (y x : ℝ) : Ideal.atan2 (y : EReal) (x : EReal) =
    ((if 0 < x then Real.arctan (y / x)
      else if x < 0 then (if 0 ≤ y then Real.arctan (y / x) + Real.pi else Real.arctan (y / x) - Real.pi)
      else if 0 < y then Real.pi / 2 else if y < 0 then -(Real.pi / 2) else 0 : ℝ) : EReal) := rfl

/-- The number of ninths, from a quarter turn back to a quarter turn on, that the `m`-th edge stands at. -/
def step : Fin 8 → ℤ := ![1, 2, 3, 4, -4, -3, -2, -1]

/-- The precondition's edges are the tangents of the steps. -/
theorem exactEdge_eq (m : Fin 8) : exactEdge m = ((Real.tan ((step m : ℝ) * Real.pi / 9) : ℝ) : EReal) := by
  have hs : (((BitVec.ofNat 32 m.val).toInt : ℝ)) = (m.val : ℝ) := by
    have : (BitVec.ofNat 32 m.val).toInt = (m.val : ℤ) := by revert m; decide
    rw [this]; norm_cast
  unfold exactEdge
  rw [half_turn, lit_one, lit_nine, hs, ← EReal.coe_add, ← EReal.coe_mul, div_coe (by norm_num), Ideal.tan_coe]
  congr 1
  have hp : ∀ x : ℝ, Real.tan (x - Real.pi) = Real.tan x := Real.tan_sub_pi
  fin_cases m <;> simp only [step] <;> norm_num
  · rw [← hp]; congr 1; ring
  · rw [← hp]; congr 1; ring
  · rw [← hp]; congr 1; ring
  · rw [← hp]; congr 1; ring

/-- The reference's remainder of a whole number of ninths, moved by no half turn, one on or one back. -/
theorem modNine_eq (f d : ℤ) (hf : -5 ≤ f ∧ f ≤ 4) (hd : d = 0 ∨ d = 9 ∨ d = -9) :
    modNine (BitVec.ofInt 32 (f + d)) = BitVec.ofInt 32 (if f < 0 then f + 9 else f) := by
  obtain ⟨h1, h2⟩ := hf
  rcases hd with rfl | rfl | rfl <;> interval_cases f <;> decide

/-- The kernel's count when its edges are passed as whole ninths are. -/
theorem countBin_eq (t : EReal) (f : ℤ) (hf : -5 ≤ f ∧ f ≤ 4) (h0 : t < 0 ↔ f < 0)
    (h : ∀ m : Fin 8, Ideal.ofBits .f32 (edgeWord m) ≤ t ↔ step m ≤ f) :
    countBin t = BitVec.ofInt 32 (if f < 0 then f + 9 else f) := by
  have e0 := h 0; have e1 := h 1; have e2 := h 2; have e3 := h 3
  have e4 := h 4; have e5 := h 5; have e6 := h 6; have e7 := h 7
  simp only [edgeWord, step, Matrix.cons_val] at e0 e1 e2 e3 e4 e5 e6 e7
  unfold countBin pastWord Ideal.cmp
  simp only [Ideal.ofBits_zero_f32, h0, e0, e1, e2, e3, e4, e5, e6, e7]
  obtain ⟨h1, h2⟩ := hf
  clear e0 e1 e2 e3 e4 e5 e6 e7 h h0
  interval_cases f <;> decide

/-- The whole number of ninths, rounded down, of an angle within a quarter turn. -/
theorem ninths {a : ℝ} (h : -(Real.pi / 2) ≤ a ∧ a ≤ Real.pi / 2) : -5 ≤ ⌊a / Real.pi * 9⌋ ∧ ⌊a / Real.pi * 9⌋ ≤ 4 := by
  have hp := Real.pi_pos
  have e : a / Real.pi * Real.pi = a := div_mul_cancel₀ _ hp.ne'
  constructor
  · rw [Int.le_floor]; push_cast; nlinarith
  · have : ⌊a / Real.pi * 9⌋ < 5 := by rw [Int.floor_lt]; push_cast; nlinarith
    omega

/-- A step is passed by an angle exactly when the angle's whole number of ninths reaches it. -/
theorem step_le (m : Fin 8) (a : ℝ) : Real.arctan (Real.tan ((step m : ℝ) * Real.pi / 9)) ≤ a ↔ step m ≤ ⌊a / Real.pi * 9⌋ := by
  have hp := Real.pi_pos
  have e : a / Real.pi * Real.pi = a := div_mul_cancel₀ _ hp.ne'
  have b : -4 ≤ (step m : ℝ) ∧ (step m : ℝ) ≤ 4 := by fin_cases m <;> norm_num [step]
  rw [Real.arctan_tan (by nlinarith [b.1]) (by nlinarith [b.2]), Int.le_floor]
  constructor
  · intro h
    rw [← sub_nonneg] at h ⊢
    have : a / Real.pi * 9 - step m = (a - step m * Real.pi / 9) / Real.pi * 9 := by field_simp
    rw [this]; positivity
  · intro h
    nlinarith

/-- A whole number read as a word from its real value. -/
theorem fptosi_int (n : ℤ) (h : -20 ≤ n ∧ n ≤ 20) : Ideal.fptosi 32 (((n : ℝ)) : EReal) = BitVec.ofInt 32 n := by
  unfold Ideal.fptosi
  rw [Ideal.toIntClamped_coe, Int.floor_intCast, Int.ceil_intCast, ite_self]
  congr 1
  norm_num
  omega

/-- The reference's bin when its angle is a quarter-turn angle moved by no half turn, one on or one back. -/
theorem angleBin_eq (gx gy a : ℝ) (d : ℤ) (ha : -(Real.pi / 2) ≤ a ∧ a ≤ Real.pi / 2) (hd : d = 0 ∨ d = 1 ∨ d = -1)
    (h : Ideal.atan2 (gx : EReal) (gy : EReal) = ((a + d * Real.pi : ℝ) : EReal)) :
    angleBin gx gy = BitVec.ofInt 32 (if ⌊a / Real.pi * 9⌋ < 0 then ⌊a / Real.pi * 9⌋ + 9 else ⌊a / Real.pi * 9⌋) := by
  have hp := Real.pi_pos
  have hn := ninths ha
  unfold angleBin
  rw [half_turn, lit_nine, h, div_coe hp.ne', ← EReal.coe_mul]
  have e : (a + d * Real.pi) / Real.pi * 9 = a / Real.pi * 9 + ((9 * d : ℤ) : ℝ) := by
    push_cast; field_simp
  have l : Ideal.liftRound Int.floor (((a + d * Real.pi) / Real.pi * 9 : ℝ) : EReal) =
      (((⌊a / Real.pi * 9⌋ + 9 * d : ℤ) : ℝ) : EReal) := by
    show (((⌊(a + d * Real.pi) / Real.pi * 9⌋ : ℤ) : ℝ) : EReal) = _
    rw [e, Int.floor_add_intCast]
  rw [l, fptosi_int _ (by rcases hd with rfl | rfl | rfl <;> omega)]
  exact modNine_eq _ _ hn (by rcases hd with rfl | rfl | rfl <;> simp)

/-- THE BIN: for two real gradients not both zero, the kernel's count of the ratio is the reference's bin of the angle,
    where the kernel's edges separate the ratio as the exact edges do. -/
theorem countBin_eq_angleBin (gx gy : ℝ) (hg : ¬ (gx = 0 ∧ gy = 0))
    (h : ∀ m : Fin 8, Ideal.ofBits .f32 (edgeWord m) ≤ Ideal.div (gx : EReal) (gy : EReal) ↔
      exactEdge m ≤ Ideal.div (gx : EReal) (gy : EReal)) :
    countBin (Ideal.div (gx : EReal) (gy : EReal)) = angleBin gx gy := by
  have hp := Real.pi_pos
  obtain ⟨a, d, ha, hd, hat, h0, hr⟩ : ∃ (a : ℝ) (d : ℤ), (-(Real.pi / 2) ≤ a ∧ a ≤ Real.pi / 2) ∧ (d = 0 ∨ d = 1 ∨ d = -1) ∧
      Ideal.atan2 (gx : EReal) (gy : EReal) = ((a + d * Real.pi : ℝ) : EReal) ∧
      (Ideal.div (gx : EReal) (gy : EReal) < 0 ↔ a < 0) ∧
      ∀ r : ℝ, (r : EReal) ≤ Ideal.div (gx : EReal) (gy : EReal) ↔ Real.arctan r ≤ a := by
    by_cases hy : gy = 0
    · subst hy
      rcases lt_trichotomy gx 0 with hx | hx | hx
      · refine ⟨-(Real.pi / 2), 0, ⟨le_rfl, by linarith⟩, Or.inl rfl, ?_, ?_, fun r => ?_⟩
        · rw [atan2_coe]; simp [hx, not_lt.2 hx.le]
        · simp [Ideal.div, not_lt.2 hx.le, hp]
        · simp [Ideal.div, not_lt.2 hx.le, Real.neg_pi_div_two_lt_arctan r]
      · exact absurd ⟨hx, rfl⟩ hg
      · refine ⟨Real.pi / 2, 0, ⟨by linarith, le_rfl⟩, Or.inl rfl, ?_, ?_, fun r => ?_⟩
        · rw [atan2_coe]; simp [hx]
        · simp [Ideal.div, hx]; positivity
        · simp [Ideal.div, hx, (Real.arctan_lt_pi_div_two r).le]
    · have key : ∀ r : ℝ, (r : EReal) ≤ Ideal.div (gx : EReal) (gy : EReal) ↔ Real.arctan r ≤ Real.arctan (gx / gy) := by
        intro r
        rw [div_coe hy, EReal.coe_le_coe_iff, Real.arctan_le_arctan_iff]
      have neg : Ideal.div (gx : EReal) (gy : EReal) < 0 ↔ Real.arctan (gx / gy) < 0 := by
        rw [div_coe hy, EReal.coe_neg', Real.arctan_lt_zero]
      have rng : -(Real.pi / 2) ≤ Real.arctan (gx / gy) ∧ Real.arctan (gx / gy) ≤ Real.pi / 2 :=
        ⟨(Real.neg_pi_div_two_lt_arctan _).le, (Real.arctan_lt_pi_div_two _).le⟩
      rcases lt_or_gt_of_ne hy with hl | hl
      · by_cases hx : 0 ≤ gx
        · exact ⟨_, 1, rng, Or.inr (Or.inl rfl), by rw [atan2_coe]; simp [hl, not_lt.2 hl.le, hx], neg, key⟩
        · exact ⟨_, -1, rng, Or.inr (Or.inr rfl), by rw [atan2_coe]; simp [hl, not_lt.2 hl.le, hx, sub_eq_add_neg], neg, key⟩
      · exact ⟨_, 0, rng, Or.inl rfl, by rw [atan2_coe]; simp [hl], neg, key⟩
  rw [angleBin_eq gx gy a d ha hd hat]
  refine countBin_eq _ _ (ninths ha) (h0.trans ?_) fun m => (h m).trans ?_
  · rw [Int.floor_lt, Int.cast_zero]
    constructor
    · intro hneg
      have : a / Real.pi < 0 := div_neg_of_neg_of_pos hneg hp
      linarith
    · intro hneg
      by_contra hc
      have : 0 ≤ a / Real.pi := div_nonneg (not_lt.1 hc) hp.le
      linarith
  · rw [exactEdge_eq, hr, step_le]

end Cert.Hog
-- ==== Proof.Pixel.lean ====
/-
  One pixel and one cell over the extended reals. The kernel's gradients are differences of smoothed sums and the
  reference's are nine-tap sums: equal where the taps are real, and infinite together where one is not. A cell that
  holds a pixel of infinite magnitude is zero in every bin on both sides, whatever the bins of its pixels.
-/
module

public import proofs.«01_k».proof.Proof.Angle

@[expose] public section

noncomputable section

namespace Cert.Hog

open Idealize.ShloMosaic

/-- The kernel's gradient across columns of the nine values around a pixel. -/
def smoothX (p : Fin 3 → Fin 3 → EReal) : EReal :=
  ((p 0 0 + Ideal.ofBits .f32 0x40000000#32 * p 1 0) + p 2 0) - ((p 0 2 + Ideal.ofBits .f32 0x40000000#32 * p 1 2) + p 2 2)

/-- The kernel's gradient across rows of the nine values around a pixel. -/
def smoothY (p : Fin 3 → Fin 3 → EReal) : EReal :=
  ((p 0 0 + Ideal.ofBits .f32 0x40000000#32 * p 0 1) + p 0 2) - ((p 2 0 + Ideal.ofBits .f32 0x40000000#32 * p 2 1) + p 2 2)

/-- Nine taps with weights of the given words, added in row order from zero. -/
def taps (w : Fin 3 → Fin 3 → BitVec 32) (p : Fin 3 → Fin 3 → EReal) : EReal :=
  Ideal.ofBits .f32 0x00000000#32 + Ideal.ofBits .f32 (w 0 0) * p 0 0 + Ideal.ofBits .f32 (w 0 1) * p 0 1
    + Ideal.ofBits .f32 (w 0 2) * p 0 2 + Ideal.ofBits .f32 (w 1 0) * p 1 0 + Ideal.ofBits .f32 (w 1 1) * p 1 1
    + Ideal.ofBits .f32 (w 1 2) * p 1 2 + Ideal.ofBits .f32 (w 2 0) * p 2 0 + Ideal.ofBits .f32 (w 2 1) * p 2 1
    + Ideal.ofBits .f32 (w 2 2) * p 2 2

/-- The words of the weights across columns. -/
def wordsX : Fin 3 → Fin 3 → BitVec 32 :=
  ![![0x3F800000#32, 0x00000000#32, 0xBF800000#32], ![0x40000000#32, 0x00000000#32, 0xC0000000#32],
    ![0x3F800000#32, 0x00000000#32, 0xBF800000#32]]
/-- The words of the weights across rows. -/
def wordsY : Fin 3 → Fin 3 → BitVec 32 :=
  ![![0x3F800000#32, 0x40000000#32, 0x3F800000#32], ![0x00000000#32, 0x00000000#32, 0x00000000#32],
    ![0xBF800000#32, 0xC0000000#32, 0xBF800000#32]]

/-- An extended real that is not a real. -/
def Inf (a : EReal) : Prop := a = ⊤ ∨ a = ⊥

/-- A real is none. -/
theorem inf_coe (r : ℝ) : ¬ Inf (r : EReal) := by simp [Inf]
/-- What is not infinite is real. -/
theorem real_of_not_inf {a : EReal} (h : ¬ Inf a) : ∃ r : ℝ, a = (r : EReal) := by
  induction a using EReal.rec with
  | bot => exact absurd (Or.inr rfl) h
  | coe r => exact ⟨r, rfl⟩
  | top => exact absurd (Or.inl rfl) h
/-- A sum is infinite when a summand is. -/
theorem inf_add (a b : EReal) : Inf (a + b) ↔ Inf a ∨ Inf b := by
  unfold Inf
  induction a using EReal.rec <;> induction b using EReal.rec <;> simp [← EReal.coe_add]
/-- A difference is infinite when a term is. -/
theorem inf_sub (a b : EReal) : Inf (a - b) ↔ Inf a ∨ Inf b := by
  unfold Inf
  induction a using EReal.rec <;> induction b using EReal.rec <;> simp [← EReal.coe_sub]
/-- A multiple by a real other than zero is infinite when the factor is. -/
theorem inf_mul {r : ℝ} (hr : r ≠ 0) (b : EReal) : Inf ((r : EReal) * b) ↔ Inf b := by
  unfold Inf
  induction b using EReal.rec with
  | coe x => simp [← EReal.coe_mul]
  | bot => rcases lt_or_gt_of_ne hr with h | h <;> simp [EReal.coe_mul_bot_of_neg, EReal.coe_mul_bot_of_pos, h]
  | top => rcases lt_or_gt_of_ne hr with h | h <;> simp [EReal.coe_mul_top_of_neg, EReal.coe_mul_top_of_pos, h]

/-- Two extended reals that are the same real or are both infinite. -/
def Agree (a b : EReal) : Prop := (Inf a ∧ Inf b) ∨ ∃ r : ℝ, a = (r : EReal) ∧ b = (r : EReal)

/-- The gradients across columns agree. -/
theorem agree_x (p : Fin 3 → Fin 3 → EReal) : Agree (smoothX p) (taps wordsX p) := by
  have z : ((0 : ℝ) : EReal) = 0 := rfl
  by_cases h : Inf (p 0 0) ∨ Inf (p 1 0) ∨ Inf (p 2 0) ∨ Inf (p 0 2) ∨ Inf (p 1 2) ∨ Inf (p 2 2)
  · left
    have i0 : ¬ Inf (0 : EReal) := inf_coe 0
    unfold smoothX taps wordsX
    simp only [Matrix.cons_val, Ideal.ofBits_zero_f32, lit_one, lit_two, lit_neg_one, lit_neg_two, zero_mul, add_zero,
      zero_add, inf_add, inf_sub, inf_mul (show (1 : ℝ) ≠ 0 by norm_num), inf_mul (show (2 : ℝ) ≠ 0 by norm_num),
      inf_mul (show (-1 : ℝ) ≠ 0 by norm_num), inf_mul (show (-2 : ℝ) ≠ 0 by norm_num)]
    tauto
  · right
    simp only [not_or] at h
    obtain ⟨h1, h2, h3, h4, h5, h6⟩ := h
    obtain ⟨a, ha⟩ := real_of_not_inf h1
    obtain ⟨b, hb⟩ := real_of_not_inf h2
    obtain ⟨c, hc⟩ := real_of_not_inf h3
    obtain ⟨d, hd⟩ := real_of_not_inf h4
    obtain ⟨e, he⟩ := real_of_not_inf h5
    obtain ⟨f, hf⟩ := real_of_not_inf h6
    refine ⟨(a + 2 * b + c) - (d + 2 * e + f), ?_, ?_⟩
    · unfold smoothX
      rw [ha, hb, hc, hd, he, hf, lit_two]
      norm_cast
    · unfold taps wordsX
      simp only [Matrix.cons_val, Ideal.ofBits_zero_f32, lit_one, lit_two, lit_neg_one, lit_neg_two, zero_mul, add_zero,
        zero_add, ha, hb, hc, hd, he, hf]
      simp only [← EReal.coe_mul, ← EReal.coe_add, EReal.coe_eq_coe_iff]
      ring

/-- The gradients across rows agree: they are the gradients across columns of the values read the other way. -/
theorem agree_y (p : Fin 3 → Fin 3 → EReal) : Agree (smoothY p) (taps wordsY p) := by
  have e : taps wordsY p = taps wordsX fun i j => p j i := by
    unfold taps wordsY wordsX
    simp only [Matrix.cons_val, Ideal.ofBits_zero_f32, zero_mul, add_zero, zero_add]
    abel
  rw [e]
  exact agree_x fun i j => p j i

/-- The magnitude of a pair of gradients. -/
def magnitude (gx gy : EReal) : EReal := Ideal.sqrt (gx * gx + gy * gy)

/-- The square of an infinity. -/
theorem inf_sq {a : EReal} (h : Inf a) : a * a = ⊤ := by
  rcases h with rfl | rfl <;> simp
/-- A square is not the lower infinity. -/
theorem sq_ne_bot (a : EReal) : a * a ≠ ⊥ := by
  induction a using EReal.rec <;> simp [← EReal.coe_mul]

/-- The magnitude of a pair of which one is infinite. -/
theorem magnitude_inf {gx gy : EReal} (h : Inf gx ∨ Inf gy) : magnitude gx gy = ⊤ := by
  unfold magnitude
  rcases h with h | h
  · rw [inf_sq h, EReal.top_add_of_ne_bot (sq_ne_bot _), Ideal.sqrt_top]
  · rw [inf_sq h, EReal.add_top_of_ne_bot (sq_ne_bot _), Ideal.sqrt_top]

/-- The magnitude of a pair of reals. -/
theorem magnitude_coe (x y : ℝ) : magnitude (x : EReal) (y : EReal) = ((Real.sqrt (x * x + y * y) : ℝ) : EReal) := by
  unfold magnitude
  rw [← EReal.coe_mul, ← EReal.coe_mul, ← EReal.coe_add, Ideal.sqrt_coe, if_neg (not_lt.2 (add_nonneg (mul_self_nonneg x) (mul_self_nonneg y)))]

/-- THE PIXEL: the two magnitudes are equal and not negative, and unless they are zero or infinite the two bins are
    equal, where the kernel's edges separate the ratio as the exact edges do. -/
theorem pixel (p : Fin 3 → Fin 3 → EReal)
    (h : ∀ m : Fin 8, Ideal.ofBits .f32 (edgeWord m) ≤ Ideal.div (taps wordsX p) (taps wordsY p) ↔
      exactEdge m ≤ Ideal.div (taps wordsX p) (taps wordsY p)) :
    magnitude (smoothX p) (smoothY p) = magnitude (taps wordsX p) (taps wordsY p) ∧
    0 ≤ magnitude (smoothX p) (smoothY p) ∧
    (magnitude (smoothX p) (smoothY p) = 0 ∨ magnitude (smoothX p) (smoothY p) = ⊤ ∨
      countBin (Ideal.div (smoothX p) (smoothY p)) = angleBin (taps wordsX p) (taps wordsY p)) := by
  rcases agree_x p with ⟨a, b⟩ | ⟨x, hx, hx'⟩
  · rw [magnitude_inf (Or.inl a), magnitude_inf (Or.inl b)]
    exact ⟨rfl, le_top, Or.inr (Or.inl rfl)⟩
  rcases agree_y p with ⟨a, b⟩ | ⟨y, hy, hy'⟩
  · rw [magnitude_inf (Or.inr a), magnitude_inf (Or.inr b)]
    exact ⟨rfl, le_top, Or.inr (Or.inl rfl)⟩
  rw [hx', hy'] at h ⊢
  rw [hx, hy, magnitude_coe]
  refine ⟨rfl, by exact_mod_cast Real.sqrt_nonneg _, ?_⟩
  by_cases z : x = 0 ∧ y = 0
  · left
    rw [z.1, z.2]; simp
  · exact Or.inr (Or.inr (countBin_eq_angleBin x y z h))

/-- A word from zero to eight. -/
def IsBin (b : BitVec 32) : Prop := ∃ k : Fin 9, b = BitVec.ofNat 32 k.val

/-- The first four edges are positive. -/
theorem edge_pos : 0 < Ideal.ofBits .f32 0x3EBA5A4E#32 ∧ 0 < Ideal.ofBits .f32 0x3F56CF3C#32 ∧
    0 < Ideal.ofBits .f32 0x3FDDB3D7#32 ∧ 0 < Ideal.ofBits .f32 0x40B57B24#32 := by
  refine ⟨?_, ?_, ?_, ?_⟩ <;> simp [Ideal.ofBits, Ideal.ieee] <;> rw [← EReal.coe_mul, EReal.coe_pos] <;> norm_num

/-- The last four edges are negative. -/
theorem edge_neg : Ideal.ofBits .f32 0xC0B57B24#32 < 0 ∧ Ideal.ofBits .f32 0xBFDDB3D7#32 < 0 ∧
    Ideal.ofBits .f32 0xBF56CF3C#32 < 0 ∧ Ideal.ofBits .f32 0xBEBA5A4E#32 < 0 := by
  refine ⟨?_, ?_, ?_, ?_⟩ <;> simp [Ideal.ofBits, Ideal.ieee] <;> rw [← EReal.coe_mul, EReal.coe_pos] <;> norm_num

/-- The kernel's count is a bin: a ratio below zero passes none of the positive edges, another passes every negative one. -/
theorem isBin_count (t : EReal) : IsBin (countBin t) := by
  have hp := edge_pos
  have hn := edge_neg
  unfold countBin pastWord Ideal.cmp IsBin
  simp only [Ideal.ofBits_zero_f32]
  rcases lt_or_ge t 0 with h | h
  · simp only [h, not_le.2 (h.trans hp.1), not_le.2 (h.trans hp.2.1), not_le.2 (h.trans hp.2.2.1),
      not_le.2 (h.trans hp.2.2.2), decide_true, decide_false]
    generalize decide (Ideal.ofBits .f32 0xC0B57B24#32 ≤ t) = b0
    generalize decide (Ideal.ofBits .f32 0xBFDDB3D7#32 ≤ t) = b1
    generalize decide (Ideal.ofBits .f32 0xBF56CF3C#32 ≤ t) = b2
    generalize decide (Ideal.ofBits .f32 0xBEBA5A4E#32 ≤ t) = b3
    revert b0 b1 b2 b3
    decide
  · simp only [not_lt.2 h, hn.1.le.trans h, hn.2.1.le.trans h, hn.2.2.1.le.trans h, hn.2.2.2.le.trans h,
      decide_true, decide_false]
    generalize decide (Ideal.ofBits .f32 0x3EBA5A4E#32 ≤ t) = b0
    generalize decide (Ideal.ofBits .f32 0x3F56CF3C#32 ≤ t) = b1
    generalize decide (Ideal.ofBits .f32 0x3FDDB3D7#32 ≤ t) = b2
    generalize decide (Ideal.ofBits .f32 0x40B57B24#32 ≤ t) = b3
    revert b0 b1 b2 b3
    decide

/-- The reference's remainder is a bin. -/
theorem isBin_modNine (b : BitVec 32) : IsBin (modNine b) := by
  have h9 : nine = 9#32 := by decide
  have hr : IntOp.remsi .host b nine = b.srem 9#32 := by
    rw [h9]; unfold IntOp.remsi
    rw [if_neg]
    rintro (h | ⟨-, h⟩) <;> exact absurd h (by decide)
  have hi : (b.srem 9#32).toInt = b.toInt.tmod 9 := by
    rw [BitVec.toInt_srem]; rfl
  obtain ⟨n, hn, h1, h2⟩ : ∃ n : ℤ, b.srem 9#32 = BitVec.ofInt 32 n ∧ -8 ≤ n ∧ n ≤ 8 := by
    refine ⟨(b.srem 9#32).toInt, (BitVec.ofInt_toInt).symm, ?_, ?_⟩ <;> rw [hi, Int.tmod_eq_emod] <;> split <;> omega
  unfold modNine IsBin
  rw [hr, hn, h9]
  interval_cases n <;> decide

/-- One bin of a cell's histogram: the values of the cell's pixels of that bin. -/
def cellSum (v : Fin 8 → Fin 8 → EReal) (b : Fin 8 → Fin 8 → BitVec 32) (k : BitVec 32) : EReal :=
  ∑ c : Fin 8, ∑ r : Fin 8, if b r c = k then v r c else 0

/-- The divisor of a cell: the root of the sum of the squares of its nine bins, at least the word 1e-12. -/
def cellNorm (v : Fin 8 → Fin 8 → EReal) (b : Fin 8 → Fin 8 → BitVec 32) : EReal :=
  max (Ideal.sqrt (∑ j : Fin 9, cellSum v b (BitVec.ofNat 32 j.val) * cellSum v b (BitVec.ofNat 32 j.val)))
    (Ideal.ofBits .f32 0x2B8CBCCC#32)

/-- One bin of a cell, divided. -/
def cellRatio (v : Fin 8 → Fin 8 → EReal) (b : Fin 8 → Fin 8 → BitVec 32) (k : BitVec 32) : EReal :=
  Ideal.div (cellSum v b k) (cellNorm v b)

/-- A sum of extended reals that are not negative is the upper infinity when one of them is. -/
theorem sum_top {ι : Type} [Fintype ι] (f : ι → EReal) (h0 : ∀ i, 0 ≤ f i) (i : ι) (hi : f i = ⊤) : ∑ j, f j = ⊤ := by
  classical
  refine top_le_iff.1 ?_
  rw [← hi]
  exact Finset.single_le_sum (f := f) (fun j _ => h0 j) (Finset.mem_univ i)

/-- A cell with a pixel of infinite value has an infinite divisor. -/
theorem cellNorm_top (v : Fin 8 → Fin 8 → EReal) (b : Fin 8 → Fin 8 → BitVec 32) (h0 : ∀ r c, 0 ≤ v r c)
    (hb : ∀ r c, IsBin (b r c)) (r c : Fin 8) (h : v r c = ⊤) : cellNorm v b = ⊤ := by
  obtain ⟨k, hk⟩ := hb r c
  have p : ∀ j r c, 0 ≤ if b r c = j then v r c else 0 := by
    intro j r c; split
    · exact h0 r c
    · exact le_rfl
  have s : cellSum v b (BitVec.ofNat 32 k.val) = ⊤ :=
    sum_top _ (fun c => Finset.sum_nonneg fun r _ => p _ r c) c (sum_top _ (fun r => p _ r c) r (by rw [if_pos hk, h]))
  have q : ∀ j : BitVec 32, 0 ≤ cellSum v b j := fun j => Finset.sum_nonneg fun c _ => Finset.sum_nonneg fun r _ => p _ r c
  unfold cellNorm
  rw [sum_top (fun j : Fin 9 => cellSum v b (BitVec.ofNat 32 j.val) * cellSum v b (BitVec.ofNat 32 j.val))
    (fun j => mul_nonneg (q _) (q _)) k (by rw [s]; exact EReal.top_mul_top), Ideal.sqrt_top]
  exact max_eq_left le_top

/-- Any extended real divided by the upper infinity is zero. -/
theorem div_top (x : EReal) : Ideal.div x ⊤ = 0 := by
  unfold Ideal.div
  rw [if_neg (by simp), EReal.inv_top, mul_zero]

/-- THE CELL: two ways to give the pixels bins divide to the same histogram when they differ only where a pixel's value
    is zero or infinite. -/
theorem cell (v : Fin 8 → Fin 8 → EReal) (b b' : Fin 8 → Fin 8 → BitVec 32) (h0 : ∀ r c, 0 ≤ v r c)
    (hb : ∀ r c, IsBin (b r c)) (hb' : ∀ r c, IsBin (b' r c))
    (h : ∀ r c, v r c = 0 ∨ v r c = ⊤ ∨ b r c = b' r c) (k : BitVec 32) : cellRatio v b k = cellRatio v b' k := by
  by_cases t : ∃ r c, v r c = ⊤
  · obtain ⟨r, c, t⟩ := t
    unfold cellRatio
    rw [cellNorm_top v b h0 hb r c t, cellNorm_top v b' h0 hb' r c t, div_top, div_top]
  · have e : cellSum v b = cellSum v b' := by
      funext j
      refine Finset.sum_congr rfl fun c _ => Finset.sum_congr rfl fun r _ => ?_
      rcases h r c with z | z | z
      · rw [z, ite_self, ite_self]
      · exact absurd ⟨r, c, z⟩ t
      · rw [z]
    unfold cellRatio cellNorm
    rw [e]

/-- A positive real. -/
def IsPos (a : EReal) : Prop := ∃ r : ℝ, 0 < r ∧ a = (r : EReal)

/-- A value that is not negative times a positive real: not negative, zero where the value is, infinite where it is. -/
theorem mul_pos_cases {a g : EReal} (ha : 0 ≤ a) (hg : IsPos g) : 0 ≤ a * g ∧ (a = 0 → a * g = 0) ∧ (a = ⊤ → a * g = ⊤) := by
  obtain ⟨r, hr, rfl⟩ := hg
  refine ⟨mul_nonneg ha (by exact_mod_cast hr.le), ?_, ?_⟩
  · rintro rfl; exact zero_mul _
  · rintro rfl; exact EReal.top_mul_coe_of_pos hr

end Cert.Hog
-- ==== Proof.KernelRead.lean ====
/-
  The kernel's work on one image, read at one index over the extended reals: the nine values around a pixel, its
  gradients, its bin and its weighted magnitude, and a pooled histogram as the sums over 8x8 cells.
-/
module

public import proofs.«01_k».proof.Proof.Tile
public import proofs.«01_k».proof.Proof.Pixel
public import Idealize.ShloMosaic.Lib.Pointwise

@[expose] public section

set_option maxRecDepth 16384

noncomputable section

namespace Cert.Hog

open Idealize.ShloMosaic Idealize.SL.Sem
open Cert.KernelIdeal Cert.KernelIdeal.Gen

/-- The row or column of the image that a row or column of the padded image repeats. -/
def reflect (u : Fin 226) : Fin 224 :=
  ⟨if u.val < 1 then 1 else if u.val - 1 < 224 then u.val - 1 else 222, by split <;> [omega; split <;> omega]⟩

/-- The nine values around pixel `i, j` of an image, reflected at its border. -/
def around (y : Fin 224 → Fin 224 → EReal) (i j : Fin 224) (u v : Fin 3) : EReal :=
  y (reflect ⟨i.val + u.val, by omega⟩) (reflect ⟨j.val + v.val, by omega⟩)

/-- The padded image read at an index. -/
theorem padded_apply (x : Vec Ideal S1x224x224 .f32) (u v : Fin 226) :
    padded x (ix2 u v) = x (ix3 0 (reflect u) (reflect v)) := by
  pointwise [padded]
  split_ifs <;> exact congrArg₂ (fun a b => x (ix3 0 a b)) (Fin.ext (by simp only [reflect]; split_ifs <;> omega))
    (Fin.ext (by simp only [reflect]; split_ifs <;> omega))

/-- The nine values of a padded image around pixel `i, j`. -/
def window (p : FVec Ideal S226x226 .f32) (i j : Fin 224) (u v : Fin 3) : EReal :=
  p (ix2 ⟨i.val + u.val, by omega⟩ ⟨j.val + v.val, by omega⟩)

/-- The kernel's gradients read at an index. -/
theorem gradX_apply (p : FVec Ideal S226x226 .f32) (i j : Fin 224) : gradX p (ix2 i j) = smoothX (window p i j) := by
  pointwise [gradX, smoothX, window]
  simp only [Nat.add_comm]
@[inherit_doc gradX_apply] theorem gradY_apply (p : FVec Ideal S226x226 .f32) (i j : Fin 224) : gradY p (ix2 i j) = smoothY (window p i j) := by
  pointwise [gradY, smoothY, window]
  simp only [Nat.add_comm]

/-- The kernel's bin read at an index. -/
theorem binOf_apply (t : FVec Ideal S224x224 .f32) (i : S224x224.Idx) : binOf t i = countBin (t i) := rfl

/-- The weighted magnitude read at an index. -/
theorem weighted_apply (gk : Vec Ideal S224x224 .f32) (gx gy : FVec Ideal S224x224 .f32) (i j : Fin 224) :
    weighted gk gx gy (ix2 i j) = magnitude (gx (ix2 i j)) (gy (ix2 i j)) * gk (ix2 i j) := by
  pointwise [weighted, magnitude]

/-- A pooled histogram read at an index. -/
theorem pooled_apply (pl : Vec Ideal S28x224 .f32) (pr : Vec Ideal S224x28 .f32) (v : FVec Ideal S224x224 .f32)
    (b : IVec S224x224 32) (k : BitVec 32) (A B : Fin 28) :
    pooled pl pr v b k (ix2 A B) =
      ∑ j : Fin 224, (∑ i : Fin 224, pl (ix2 A i) * (if b (ix2 i j) = k then v (ix2 i j) else 0)) * pr (ix2 j B) := by
  pointwise [pooled]
  refine Finset.sum_congr rfl fun j _ => congrArg (· * _) (Finset.sum_congr rfl fun i _ => ?_)
  by_cases h : b (ix2 i j) = k
  · rw [if_pos h, h]; simp [IntOp.cmpi, Scalar.select]
  · rw [if_neg h]; simp [IntOp.cmpi, Scalar.select, beq_eq_false_iff_ne.2 h]

/-- The divided histogram read at an index. -/
theorem ratio_apply (x : Vec Ideal S1x224x224 .f32) (gk : Vec Ideal S224x224 .f32) (pl : Vec Ideal S28x224 .f32)
    (pr : Vec Ideal S224x28 .f32) (k : BitVec 32) (A B : Fin 28) :
    ratio x gk pl pr k (ix2 A B) = Ideal.div (hist x gk pl pr k (ix2 A B))
      (max (Ideal.sqrt (∑ m : Fin 9, hist x gk pl pr (BitVec.ofNat 32 m.val) (ix2 A B) * hist x gk pl pr (BitVec.ofNat 32 m.val) (ix2 A B)))
        (Ideal.ofBits .f32 0x2B8CBCCC#32)) := by
  pointwise [ratio, divisor, energy]
  simp only [Fin.sum_univ_succ, Fin.sum_univ_zero]
  simp [add_assoc]

/-- The cell row (column) that row (column) `A` of a pooled histogram holds: the even cells first, then the odd ones. -/
def cellOf (A : Fin 28) : Fin 28 := ⟨2 * (A.val % 14) + A.val / 14, by omega⟩

/-- Pixel row (column) `r` of cell row (column) `C`. -/
def inCell (C : Fin 28) (r : Fin 8) : Fin 224 := ⟨8 * C.val + r.val, by omega⟩

/-- A sum against the indicator of a cell is the sum over the cell. -/
theorem sum_cell (C : Fin 28) (f : Fin 224 → EReal) :
    ∑ i : Fin 224, (if i.val / 8 = C.val then f i else 0) = ∑ r : Fin 8, f (inCell C r) := by
  rw [← Finset.sum_filter]
  symm
  refine Finset.sum_bij (fun r _ => inCell C r) (fun r _ => ?_) (fun r _ s _ h => ?_) (fun i hi => ?_) (fun r _ => rfl)
  · simp [inCell]; omega
  · have := congrArg Fin.val h
    simp only [inCell] at this
    exact Fin.ext (by omega)
  · rw [Finset.mem_filter] at hi
    exact ⟨⟨i.val % 8, by omega⟩, Finset.mem_univ _, Fin.ext (by simp only [inCell]; omega)⟩

/-- A product with an indicator. -/
theorem indicator_mul (p : Prop) [Decidable p] (x : EReal) : (if p then (1 : EReal) else 0) * x = if p then x else 0 := by
  split <;> simp
@[inherit_doc indicator_mul] theorem mul_indicator (p : Prop) [Decidable p] (x : EReal) :
    x * (if p then (1 : EReal) else 0) = if p then x else 0 := by
  split <;> simp

/-- A pooled histogram, when the two matrices are the indicators of the cells. -/
theorem pooled_cell (pl : Vec Ideal S28x224 .f32) (pr : Vec Ideal S224x28 .f32) (v : FVec Ideal S224x224 .f32)
    (b : IVec S224x224 32) (k : BitVec 32)
    (hl : ∀ (A : Fin 28) (i : Fin 224), pl (ix2 A i) = if i.val / 8 = (cellOf A).val then 1 else 0)
    (hr : ∀ (j : Fin 224) (B : Fin 28), pr (ix2 j B) = if j.val / 8 = (cellOf B).val then 1 else 0) (A B : Fin 28) :
    pooled pl pr v b k (ix2 A B) = cellSum (fun r c => v (ix2 (inCell (cellOf A) r) (inCell (cellOf B) c)))
      (fun r c => b (ix2 (inCell (cellOf A) r) (inCell (cellOf B) c))) k := by
  rw [pooled_apply]
  simp only [hl, hr, indicator_mul, mul_indicator]
  rw [sum_cell (cellOf B) fun j => ∑ i : Fin 224, if i.val / 8 = (cellOf A).val then (if b (ix2 i j) = k then v (ix2 i j) else 0) else 0]
  refine Finset.sum_congr rfl fun c _ => ?_
  exact sum_cell (cellOf A) fun i => if b (ix2 i (inCell (cellOf B) c)) = k then v (ix2 i (inCell (cellOf B) c)) else 0

/-- The nine values of the padded image are the image's values around the pixel. -/
theorem window_padded (x : Vec Ideal S1x224x224 .f32) (i j : Fin 224) :
    window (padded x) i j = around (fun a b => x (ix3 0 a b)) i j := by
  funext u v
  exact padded_apply x _ _

/-- The kernel's value of a pixel: the magnitude of its gradients times the window. -/
def kernelValue (y : Fin 224 → Fin 224 → EReal) (g : Fin 224 → Fin 224 → EReal) (i j : Fin 224) : EReal :=
  magnitude (smoothX (around y i j)) (smoothY (around y i j)) * g i j

/-- The kernel's bin of a pixel. -/
def kernelBin (y : Fin 224 → Fin 224 → EReal) (i j : Fin 224) : BitVec 32 :=
  countBin (Ideal.div (smoothX (around y i j)) (smoothY (around y i j)))

/-- THE KERNEL'S RATIO at an index: the ratio of the cell, over the kernel's values and bins. -/
theorem ratio_cell (x : Vec Ideal S1x224x224 .f32) (gk : Vec Ideal S224x224 .f32) (pl : Vec Ideal S28x224 .f32)
    (pr : Vec Ideal S224x28 .f32)
    (hl : ∀ (A : Fin 28) (i : Fin 224), pl (ix2 A i) = if i.val / 8 = (cellOf A).val then 1 else 0)
    (hr : ∀ (j : Fin 224) (B : Fin 28), pr (ix2 j B) = if j.val / 8 = (cellOf B).val then 1 else 0)
    (k : BitVec 32) (A B : Fin 28) :
    ratio x gk pl pr k (ix2 A B) = cellRatio
      (fun r c => kernelValue (fun a b => x (ix3 0 a b)) (fun a b => gk (ix2 a b)) (inCell (cellOf A) r) (inCell (cellOf B) c))
      (fun r c => kernelBin (fun a b => x (ix3 0 a b)) (inCell (cellOf A) r) (inCell (cellOf B) c)) k := by
  have h : ∀ k, hist x gk pl pr k (ix2 A B) = cellSum
      (fun r c => kernelValue (fun a b => x (ix3 0 a b)) (fun a b => gk (ix2 a b)) (inCell (cellOf A) r) (inCell (cellOf B) c))
      (fun r c => kernelBin (fun a b => x (ix3 0 a b)) (inCell (cellOf A) r) (inCell (cellOf B) c)) k := by
    intro k
    unfold hist
    rw [pooled_cell pl pr _ _ k hl hr]
    have e1 : ∀ i j : Fin 224, weighted gk (gradX (padded x)) (gradY (padded x)) (ix2 i j) =
        kernelValue (fun a b => x (ix3 0 a b)) (fun a b => gk (ix2 a b)) i j := by
      intro i j
      rw [weighted_apply, gradX_apply, gradY_apply, window_padded]
      rfl
    have e2 : ∀ i j : Fin 224, binOf (divf (gradX (padded x)) (gradY (padded x))) (ix2 i j) =
        kernelBin (fun a b => x (ix3 0 a b)) i j := by
      intro i j
      rw [binOf_apply]
      show countBin (Ideal.div (gradX (padded x) (ix2 i j)) (gradY (padded x) (ix2 i j))) = _
      rw [gradX_apply, gradY_apply, window_padded]
      rfl
    simp only [e1, e2]
  rw [ratio_apply]
  simp only [h]
  rfl

end Cert.Hog
-- ==== Proof.KernelBlock.lean ====
/-
  The block of the result that one grid point writes, at an index: the ratio of the cell that the index names.
-/
module

public import proofs.«01_k».proof.Proof.KernelRead

@[expose] public section

set_option maxRecDepth 16384

noncomputable section

namespace Cert.Hog

open Idealize.ShloMosaic
open Cert.KernelIdeal Cert.KernelIdeal.Gen

/-- The row (or column) of a pooled histogram at which entry `i` of half `s` lies. -/
def halfAt (s : Nat) (hs : s < 2) (i : Fin 14) : Fin 28 := ⟨14 * s + i.val, by omega⟩

/-- The cell of that row. -/
theorem cellOf_halfAt (s : Nat) (hs : s < 2) (i : Fin 14) : cellOf (halfAt s hs i) = ⟨2 * i.val + s, by omega⟩ := by
  apply Fin.ext
  show 2 * ((14 * s + i.val) % 14) + (14 * s + i.val) / 14 = 2 * i.val + s
  omega

/-- The block as a function of the index, from the histograms. -/
def tileValue {F : FTy → Type} [FloatOps F] (h : Fin 8 → BitVec 32 → FVec F S28x28 .f32) (y : S8x9x4x14x14.Idx) : F .f32 :=
  h (y 0) (BitVec.ofNat 32 (y 1).val)
    (ix2 (halfAt ((y 2).val / 2) (by have := (y 2).isLt; change (y 2).val < 4 at this; omega) (y 3))
      (halfAt ((y 2).val % 2) (by omega) (y 4)))

section
variable {F : FTy → Type} [FloatOps F]

/-- Equal places of a histogram hold equal values. -/
theorem at_eq (f : FVec F S28x28 .f32) {a a' b b' : Fin 28} (ha : a.val = a'.val) (hb : b.val = b'.val) :
    f (ix2 a b) = f (ix2 a' b') := by
  rw [Fin.ext ha, Fin.ext hb]

/-- The tiles at an index. -/
theorem quads_apply (f : FVec F S28x28 .f32) (a b c : Fin 1) (i j : Fin 14) :
    quad0 f (ix5 a b c i j) = f (ix2 (halfAt 0 (by omega) i) (halfAt 0 (by omega) j)) ∧
    quad1 f (ix5 a b c i j) = f (ix2 (halfAt 0 (by omega) i) (halfAt 1 (by omega) j)) ∧
    quad2 f (ix5 a b c i j) = f (ix2 (halfAt 1 (by omega) i) (halfAt 0 (by omega) j)) ∧
    quad3 f (ix5 a b c i j) = f (ix2 (halfAt 1 (by omega) i) (halfAt 1 (by omega) j)) := by
  refine ⟨?_, ?_, ?_, ?_⟩
  · pointwise [quad0]
    exact at_eq f (by simp [halfAt]) (by simp [halfAt])
  · pointwise [quad1]
    exact at_eq f (by simp [halfAt]) (by simp [halfAt])
  · pointwise [quad2]
    exact at_eq f (by simp [halfAt]) (by simp [halfAt])
  · pointwise [quad3]
    exact at_eq f (by simp [halfAt]) (by simp [halfAt])

/-- A place of a tile, as a place of the block. -/
theorem tileAt_emb (g : Fin 8) (k : Fin 9) (q : Fin 4) (a b c : Fin 1) (i j : Fin 14) :
    (tileAt g k q).emb (ix5 a b c i j) = ix5 g k q i j := by
  funext d
  apply Fin.ext
  have ha := a.isLt; have hb := b.isLt; have hc := c.isLt
  match d with
  | ⟨0, _⟩ => show g.val + 1 * a.val = g.val; omega
  | ⟨1, _⟩ => show k.val + 1 * b.val = k.val; omega
  | ⟨2, _⟩ => show q.val + 1 * c.val = q.val; omega
  | ⟨3, _⟩ => show 0 + 1 * i.val = i.val; omega
  | ⟨4, _⟩ => show 0 + 1 * j.val = j.val; omega

/-- The block's function at a place of a tile. -/
theorem tileValue_emb (h : Fin 8 → BitVec 32 → FVec F S28x28 .f32) (g : Fin 8) (k : Fin 9) (q : Fin 4)
    (a b c : Fin 1) (i j : Fin 14) :
    tileValue h ((tileAt g k q).emb (ix5 a b c i j)) = h g (BitVec.ofNat 32 k.val)
      (ix2 (halfAt (q.val / 2) (by omega) i) (halfAt (q.val % 2) (by omega) j)) := by
  rw [tileAt_emb]
  rfl

/-- The four payloads of a bin are the block's function at their places. -/
theorem quads_tile (h : Fin 8 → BitVec 32 → FVec F S28x28 .f32) (g : Fin 8) (k : Fin 9) (x : S1x1x1x14x14.Idx) :
    quad0 (h g (BitVec.ofNat 32 k.val)) x = tileValue h ((tileAt g k 0).emb x) ∧
    quad1 (h g (BitVec.ofNat 32 k.val)) x = tileValue h ((tileAt g k 1).emb x) ∧
    quad2 (h g (BitVec.ofNat 32 k.val)) x = tileValue h ((tileAt g k 2).emb x) ∧
    quad3 (h g (BitVec.ofNat 32 k.val)) x = tileValue h ((tileAt g k 3).emb x) := by
  idx_vars x
  rw [tileValue_emb, tileValue_emb, tileValue_emb, tileValue_emb]
  exact quads_apply _ _ _ _ _ _

/-- One store's payload is the block's function at its place, for the four stores of a bin. -/
theorem tile_pieces (h : Fin 8 → BitVec 32 → FVec F S28x28 .f32) (g : Fin 8) (k : Fin 9) (f : FVec F S28x28 .f32)
    (hf : f = h g (BitVec.ofNat 32 k.val))
    (L : List (View.Piece (Elt F) S8x9x4x14x14 .f32))
    (hL : ∀ p ∈ L, ∀ x : p.1.shape.Idx, p.2 x = tileValue h (p.1.emb x)) :
    ∀ p ∈ binTiles g k f L, ∀ x : p.1.shape.Idx, p.2 x = tileValue h (p.1.emb x) := by
  subst hf
  unfold binTiles
  refine List.forall_mem_cons.2 ⟨fun x => (quads_tile h g k x).2.2.2, ?_⟩
  refine List.forall_mem_cons.2 ⟨fun x => (quads_tile h g k x).2.2.1, ?_⟩
  refine List.forall_mem_cons.2 ⟨fun x => (quads_tile h g k x).2.1, ?_⟩
  exact List.forall_mem_cons.2 ⟨fun x => (quads_tile h g k x).1, hL⟩

/-- The same for the stores of an image. -/
theorem image_pieces (h : Fin 8 → BitVec 32 → FVec F S28x28 .f32) (g : Fin 8)
    (L : List (View.Piece (Elt F) S8x9x4x14x14 .f32))
    (hL : ∀ p ∈ L, ∀ x : p.1.shape.Idx, p.2 x = tileValue h (p.1.emb x)) :
    ∀ p ∈ imageTiles g (h g) L, ∀ x : p.1.shape.Idx, p.2 x = tileValue h (p.1.emb x) := by
  unfold imageTiles
  iterate 9 refine tile_pieces h g _ _ rfl _ ?_
  exact hL

/-- The same for every store. -/
theorem tiles_pieces (h : Fin 8 → BitVec 32 → FVec F S28x28 .f32) :
    ∀ p ∈ tiles h, ∀ x : p.1.shape.Idx, p.2 x = tileValue h (p.1.emb x) := by
  unfold tiles
  iterate 8 refine image_pieces h _ _ ?_
  intro p hp
  cases hp

end

/-- An image of a block, loaded. -/
theorem image_apply (x0 : Vec Ideal S8x224x224 .f32) (g : Fin 8) (a b : Fin 224) :
    View.ld x0 (imageAt g) (ix3 (0 : Fin 1) a b) = x0 (ix3 g a b) := by
  refine congrArg x0 ?_
  funext d
  apply Fin.ext
  match d with
  | ⟨0, _⟩ => show g.val + 1 * 0 = g.val; omega
  | ⟨1, _⟩ => show 0 + 1 * a.val = a.val; omega
  | ⟨2, _⟩ => show 0 + 1 * b.val = b.val; omega

/-- THE BLOCK at an index: the ratio of the cell `2 i + q / 2`, `2 j + q % 2` of image `g` in bin `k`. -/
theorem blockOut_apply (x0 : Vec Ideal S8x224x224 .f32) (x1 : Vec Ideal S224x224 .f32) (x2 : Vec Ideal S28x224 .f32)
    (x3 : Vec Ideal S224x28 .f32)
    (hl : ∀ (A : Fin 28) (i : Fin 224), x2 (ix2 A i) = if i.val / 8 = (cellOf A).val then 1 else 0)
    (hr : ∀ (j : Fin 224) (B : Fin 28), x3 (ix2 j B) = if j.val / 8 = (cellOf B).val then 1 else 0)
    (g : Fin 8) (k : Fin 9) (q : Fin 4) (i j : Fin 14) :
    blockOut x0 x1 x2 x3 (ix5 g k q i j) = cellRatio
      (fun r c => kernelValue (fun a b => x0 (ix3 g a b)) (fun a b => x1 (ix2 a b))
        (inCell ⟨2 * i.val + q.val / 2, by omega⟩ r) (inCell ⟨2 * j.val + q.val % 2, by omega⟩ c))
      (fun r c => kernelBin (fun a b => x0 (ix3 g a b))
        (inCell ⟨2 * i.val + q.val / 2, by omega⟩ r) (inCell ⟨2 * j.val + q.val % 2, by omega⟩ c))
      (BitVec.ofNat 32 k.val) := by
  have hz : (![0, 0] : Fin 2 → Nat) = fun _ => 0 := funext fun a => by fin_cases a <;> rfl
  unfold blockOut
  rw [View.canon_apply_of_pieces _ _ (tiles_pieces (blockRatio x0 x1 x2 x3)) _ (tiles_cover _ _)]
  show blockRatio x0 x1 x2 x3 g (BitVec.ofNat 32 k.val)
      (ix2 (halfAt (q.val / 2) (by omega) i) (halfAt (q.val % 2) (by omega) j)) = _
  unfold blockRatio
  rw [View.ld_unit_zero hz, View.ld_unit_zero hz, View.ld_unit_zero hz]
  refine (ratio_cell (View.ld x0 (imageAt g)) x1 x2 x3 hl hr _ _ _).trans ?_
  rw [cellOf_halfAt, cellOf_halfAt]
  have e : (fun a b => View.ld x0 (imageAt g) (ix3 (0 : Fin 1) a b)) = fun a b => x0 (ix3 g a b) :=
    funext fun a => funext fun b => image_apply x0 g a b
  exact congrArg (fun y : Fin 224 → Fin 224 → EReal => cellRatio
      (fun r c => kernelValue y (fun a b => x1 (ix2 a b))
        (inCell ⟨2 * i.val + q.val / 2, by omega⟩ r) (inCell ⟨2 * j.val + q.val % 2, by omega⟩ c))
      (fun r c => kernelBin y
        (inCell ⟨2 * i.val + q.val / 2, by omega⟩ r) (inCell ⟨2 * j.val + q.val % 2, by omega⟩ c))
      (BitVec.ofNat 32 k.val)) e

end Cert.Hog
-- ==== Proof.Table.lean ====
/-
  The two matrices that pool a histogram: row `A` of the left one has ones at the eight rows of cell `cellOf A`, and
  column `B` of the right one at the eight columns of cell `cellOf B`.
-/
module

public import proofs.«01_k».proof.Proof.KernelRead

@[expose] public section

set_option maxRecDepth 16384

noncomputable section

namespace Cert.Hog

open Idealize.ShloMosaic
open Cert.KernelIdeal Cert.KernelIdeal.Gen

/-- A one-or-zero word as a number. -/
theorem lit_indicator (P : Prop) [Decidable P] :
    Ideal.ofBits .f32 (if P then 0x3F800000#32 else 0#32) = if P then 1 else 0 := by
  split
  · exact lit_one
  · simp [Ideal.ofBits, Ideal.ieee]

/-- The words of the left matrix. -/
theorem table_left : ∀ A : Fin 28, ∀ i : Fin 224, lit0t (A.val * 224 + i.val) =
    if i.val / 8 = 2 * (A.val % 14) + A.val / 14 then 0x3F800000#32 else 0#32 := by decide +kernel

/-- The words of the right matrix. -/
theorem table_right : ∀ j : Fin 224, ∀ B : Fin 28, lit1t (j.val * 28 + B.val) =
    if j.val / 8 = 2 * (B.val % 14) + B.val / 14 then 0x3F800000#32 else 0#32 := by decide +kernel

/-- The left matrix at an index. -/
theorem left_apply (A : Fin 28) (i : Fin 224) :
    (Ideal.ofBits .f32 (lit0 (S28x224.rowMajor (ix2 A i))) : EReal) = if i.val / 8 = (cellOf A).val then 1 else 0 := by
  have e : lit0 (S28x224.rowMajor (ix2 A i)) = lit0t (A.val * 224 + i.val) := by
    show lit0t (S28x224.rowMajor (ix2 A i)).val = _
    rw [Shape.rowMajor_val_two]
    rfl
  rw [e, table_left, lit_indicator]
  rfl

/-- The right matrix at an index. -/
theorem right_apply (j : Fin 224) (B : Fin 28) :
    (Ideal.ofBits .f32 (lit1 (S224x28.rowMajor (ix2 j B))) : EReal) = if j.val / 8 = (cellOf B).val then 1 else 0 := by
  have e : lit1 (S224x28.rowMajor (ix2 j B)) = lit1t (j.val * 28 + B.val) := by
    show lit1t (S224x28.rowMajor (ix2 j B)).val = _
    rw [Shape.rowMajor_val_two]
    rfl
  rw [e, table_right, lit_indicator]
  rfl

end Cert.Hog
-- ==== Proof.ReferenceRead.lean ====
/-
  The reference's values over the extended reals, read at one index: the nine values around a pixel, its gradients,
  its bin and its weighted magnitude, and the divided histogram of a cell.
-/
module

public import proofs.«01_k».proof.Proof.Gen.ReferenceIdeal.Read
public import proofs.«01_k».proof.Proof.KernelRead
public import Idealize.ShloMosaic.Lib.Pointwise

@[expose] public section

set_option maxRecDepth 16384

noncomputable section

namespace Cert.Hog

open Idealize.ShloMosaic
open Cert.ReferenceIdeal Cert.ReferenceIdeal.Gen Cert.ReferenceIdeal.Read

/-- Image `n`: one channel of one picture, three channels to a picture. -/
def image (x : Vec Ideal S16x3x224x224 .f32) (n : Fin 48) (a b : Fin 224) : EReal :=
  x (ix4 (⟨n.val / 3, by omega⟩ : Fin 16) (⟨n.val % 3, by omega⟩ : Fin 3) a b)

/-- The images, one after the other. -/
theorem images_apply (x : Vec Ideal S16x3x224x224 .f32) (n : Fin 48) (a b : Fin 224) :
    val_main_v0 x (ix3 n a b) = image x n a b := by
  pointwise [val_main_v0]
  unfold image
  exact congrArg x (by idx_ext <;> simp <;> omega)

/-- Reversing an axis of one place changes nothing. -/
theorem reverse_row (y : FVec Ideal S48x1x224 .f32) : Host.reverse [1] y = y := by
  funext j
  refine congrArg y (funext fun a => ?_)
  match a with
  | ⟨0, _⟩ => rfl
  | ⟨1, _⟩ => exact Subsingleton.elim (α := Fin 1) _ _
  | ⟨2, _⟩ => rfl
@[inherit_doc reverse_row] theorem reverse_column (y : FVec Ideal S48x226x1 .f32) : Host.reverse [2] y = y := by
  funext j
  refine congrArg y (funext fun a => ?_)
  match a with
  | ⟨0, _⟩ => rfl
  | ⟨1, _⟩ => rfl
  | ⟨2, _⟩ => exact Subsingleton.elim (α := Fin 1) _ _

/-- The reversed slices of the padding are the slices. -/
theorem reversed (x : Vec Ideal S16x3x224x224 .f32) :
    val_main_call0_v2 x = val_main_call0_v1 x ∧ val_main_call0_v6 x = val_main_call0_v5 x ∧
      val_main_call0_v10 x = val_main_call0_v9 x ∧ val_main_call0_v14 x = val_main_call0_v13 x :=
  ⟨reverse_row _, reverse_row _, reverse_column _, reverse_column _⟩

/-- The padded images. -/
theorem reflected_apply (x : Vec Ideal S16x3x224x224 .f32) (n : Fin 48) (u v : Fin 226) :
    val_main_v1 x (ix3 n u v) = image x n (reflect u) (reflect v) := by
  rw [← images_apply]
  obtain ⟨r2, r6, r10, r14⟩ := reversed x
  unfold val_main_v1
  rw [r14]
  unfold val_main_call0_v13 val_main_call0_v11
  rw [r10]
  unfold val_main_call0_v9 val_main_call0_v7
  rw [r6]
  unfold val_main_call0_v5 val_main_call0_v3
  rw [r2]
  unfold val_main_call0_v1
  generalize val_main_v0 x = y
  pointwise []
  split_ifs <;> exact congrArg₂ (fun a b => y (ix3 n a b)) (Fin.ext (by simp only [reflect]; split_ifs <;> omega))
    (Fin.ext (by simp only [reflect]; split_ifs <;> omega))

/-- The gradient across columns. -/
theorem gradientX_apply (x : Vec Ideal S16x3x224x224 .f32) (n : Fin 48) (i j : Fin 224) :
    val_main_v38 x (ix3 n i j) = taps wordsX (around (image x n) i j) := by
  have e : ∀ u v : Fin 3, around (image x n) i j u v =
      val_main_v1 x (ix3 n (⟨i.val + u.val, by omega⟩ : Fin 226) (⟨j.val + v.val, by omega⟩ : Fin 226)) :=
    fun u v => (reflected_apply x n _ _).symm
  unfold taps
  simp only [e]
  unfold val_main_v38 val_main_v37 val_main_v36 val_main_cst_8 val_main_v35 val_main_v34 val_main_v33 val_main_v32
      val_main_cst_7 val_main_v31 val_main_v30 val_main_v29 val_main_v28 val_main_cst_6 val_main_v27 val_main_v26
      val_main_v25 val_main_v24 val_main_cst_5 val_main_v23 val_main_v22 val_main_v21 val_main_v20 val_main_cst_4
      val_main_v19 val_main_v18 val_main_v17 val_main_v16 val_main_cst_3 val_main_v15 val_main_v14 val_main_v13
      val_main_v12 val_main_cst_2 val_main_v11 val_main_v10 val_main_v9 val_main_v8 val_main_cst_1 val_main_v7
      val_main_v6 val_main_v5 val_main_cst_0 val_main_v4 val_main_v3 val_main_cst val_main_v2
  generalize val_main_v1 x = y
  pointwise []
  simp only [wordsX, Matrix.cons_val, lit_one, Ideal.ofBits_zero_f32, one_mul, zero_mul, EReal.coe_one, Nat.add_comm 1, Nat.add_comm 2]

/-- The gradient across rows. -/
theorem gradientY_apply (x : Vec Ideal S16x3x224x224 .f32) (n : Fin 48) (i j : Fin 224) :
    val_main_v75 x (ix3 n i j) = taps wordsY (around (image x n) i j) := by
  have e : ∀ u v : Fin 3, around (image x n) i j u v =
      val_main_v1 x (ix3 n (⟨i.val + u.val, by omega⟩ : Fin 226) (⟨j.val + v.val, by omega⟩ : Fin 226)) :=
    fun u v => (reflected_apply x n _ _).symm
  unfold taps
  simp only [e]
  unfold val_main_v75 val_main_v74 val_main_v73 val_main_cst_18 val_main_v72 val_main_v71 val_main_v70 val_main_v69
      val_main_cst_17 val_main_v68 val_main_v67 val_main_v66 val_main_v65 val_main_cst_16 val_main_v64 val_main_v63
      val_main_v62 val_main_v61 val_main_cst_15 val_main_v60 val_main_v59 val_main_v58 val_main_v57 val_main_cst_14
      val_main_v56 val_main_v55 val_main_v54 val_main_v53 val_main_cst_13 val_main_v52 val_main_v51 val_main_v50
      val_main_v49 val_main_cst_12 val_main_v48 val_main_v47 val_main_v46 val_main_v45 val_main_cst_11 val_main_v44
      val_main_v43 val_main_v42 val_main_cst_10 val_main_v41 val_main_v40 val_main_cst_9 val_main_v39
  generalize val_main_v1 x = y
  pointwise []
  simp only [wordsY, Matrix.cons_val, lit_one, Ideal.ofBits_zero_f32, one_mul, zero_mul, EReal.coe_one, Nat.add_comm 1, Nat.add_comm 2]

/-- The indices whose coordinates off the cell axes are given: one per pair of places in the cell. -/
theorem cell_fiber (h : S48x9x28x8x28x8.ReducesTo [3, 5] S48x9x28x28) (n : Fin 48) (k : Fin 9) (A B : Fin 28)
    (i : S48x9x28x8x28x8.Idx) : h.drop i = ix4 n k A B ↔ ∃ q : Fin 8 × Fin 8, ix6 n k A q.1 B q.2 = i := by
  constructor
  · intro e
    refine ⟨(i 3, i 5), ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => rfl
    | ⟨4, _⟩ => exact (congrArg Fin.val (congrFun e 3)).symm
    | ⟨5, _⟩ => rfl
  · rintro ⟨q, rfl⟩
    funext b; apply Fin.ext
    match b with
    | ⟨0, _⟩ => rfl
    | ⟨1, _⟩ => rfl
    | ⟨2, _⟩ => rfl
    | ⟨3, _⟩ => rfl

/-- The sum over both cell axes, as a sum over columns of sums over rows. -/
theorem cell_sum (h : S48x9x28x8x28x8.ReducesTo [3, 5] S48x9x28x28) (y : S48x9x28x8x28x8.Idx → EReal) (n : Fin 48)
    (k : Fin 9) (A B : Fin 28) :
    Ideal.hostReduceAdd h y 0 (ix4 n k A B) = ∑ c : Fin 8, ∑ r : Fin 8, y (ix6 n k A r B c) := by
  refine (zero_add _).trans ((Finset.sum_filter_eq_sum_of_fiber _ (fun q : Fin 8 × Fin 8 => ix6 n k A q.1 B q.2)
    (fun _ _ e => Prod.ext (congrFun e 3) (congrFun e 5)) (cell_fiber h n k A B) y).trans ?_)
  rw [Fintype.sum_prod_type, Finset.sum_comm]

/-- A histogram before it is divided. -/
theorem histogram_apply (x : Vec Ideal S16x3x224x224 .f32) (n : Fin 48) (k : Fin 9) (A B : Fin 28) :
    val_main_v125 x (ix4 n k A B) = ∑ c : Fin 8, ∑ r : Fin 8, val_main_v123 x (ix4 n k (inCell A r) (inCell B c)) := by
  unfold val_main_v125 val_main_cst_27 val_main_v124
  generalize val_main_v123 x = y
  pointwise []
  rw [cell_sum]
  pointwise []
  refine Finset.sum_congr rfl fun c _ => Finset.sum_congr rfl fun r _ => ?_
  exact congrArg₂ (fun a b => y (ix4 n k a b)) (Fin.ext (by simp only [inCell]; omega)) (Fin.ext (by simp only [inCell]; omega))

/-- The reference's value of a pixel: the magnitude of its gradients times the window. -/
def refValue (y : Fin 224 → Fin 224 → EReal) (g : Fin 224 → Fin 224 → EReal) (i j : Fin 224) : EReal :=
  magnitude (taps wordsX (around y i j)) (taps wordsY (around y i j)) * g i j

/-- The reference's bin of a pixel. -/
def refBin (y : Fin 224 → Fin 224 → EReal) (i j : Fin 224) : BitVec 32 :=
  angleBin (taps wordsX (around y i j)) (taps wordsY (around y i j))

/-- The reference's window at a pixel. -/
def refWindow (i j : Fin 224) : EReal := val_main_v107 (F := Ideal) (ix2 i j)

/-- The weighted magnitude. -/
theorem weight_apply (x : Vec Ideal S16x3x224x224 .f32) (n : Fin 48) (i j : Fin 224) :
    val_main_v110 x (ix3 n i j) = refValue (image x n) refWindow i j := by
  unfold refValue refWindow
  rw [← gradientX_apply, ← gradientY_apply]
  unfold val_main_v110 val_main_v109 val_main_v108 val_main_v79 val_main_v78 val_main_v77 val_main_v76
  generalize val_main_v38 x = gx
  generalize val_main_v75 x = gy
  generalize val_main_v107 (F := Ideal) = w
  pointwise []
  rfl

/-- The bin. -/
theorem bin_apply (x : Vec Ideal S16x3x224x224 .f32) (n : Fin 48) (i j : Fin 224) :
    val_main_v113 x (ix3 n i j) = refBin (image x n) i j := by
  unfold refBin
  rw [← gradientX_apply, ← gradientY_apply]
  unfold val_main_v113 val_main_call1_v14 val_main_call1_v13 val_main_call1_v12 val_main_call1_v11 val_main_call1_v10
      val_main_call1_v9 val_main_call1_c_3 val_main_call1_v8 val_main_call1_v7 val_main_call1_c_2 val_main_call1_v6
      val_main_call1_v5 val_main_call1_c_1 val_main_call1_v4 val_main_call1_v3 val_main_call1_v2 val_main_call1_c_0
      val_main_call1_v1 val_main_call1_c val_main_call1_v0 val_main_c_26 val_main_v112 val_main_v111 val_main_v85 val_main_v84 val_main_cst_20 val_main_v83 val_main_v82 val_main_v81 val_main_v80 val_main_cst_19
  rfl

/-- A bin's share of a pixel. -/
theorem share_apply (x : Vec Ideal S16x3x224x224 .f32) (n : Fin 48) (k : Fin 9) (i j : Fin 224) :
    val_main_v123 x (ix4 n k i j) =
      if refBin (image x n) i j = BitVec.ofNat 32 k.val then refValue (image x n) refWindow i j else 0 := by
  rw [← weight_apply, ← bin_apply]
  unfold val_main_v123 val_main_v122 val_main_v121 val_main_v120 val_main_v119 val_main_v118 val_main_v117 val_main_v116
      val_main_v115 val_main_v114
  generalize val_main_v113 x = b
  generalize val_main_v110 x = v
  pointwise []
  show ((((BitVec.ofBool (b (ix3 n i j) == BitVec.ofNat 32 k.val)).toNat : ℝ) : EReal)) * v (ix3 n i j) = _
  by_cases h : b (ix3 n i j) = BitVec.ofNat 32 k.val
  · rw [if_pos h, beq_iff_eq.2 h]; simp
  · rw [if_neg h, beq_eq_false_iff_ne.2 h]; simp

/-- A histogram before it is divided, as a cell's sum. -/
theorem histogram_cell (x : Vec Ideal S16x3x224x224 .f32) (n : Fin 48) (k : Fin 9) (A B : Fin 28) :
    val_main_v125 x (ix4 n k A B) = cellSum
      (fun r c => refValue (image x n) refWindow (inCell A r) (inCell B c))
      (fun r c => refBin (image x n) (inCell A r) (inCell B c)) (BitVec.ofNat 32 k.val) := by
  rw [histogram_apply]
  simp only [share_apply]
  rfl

/-- A divided histogram, as a cell's ratio. -/
theorem quotient_cell (x : Vec Ideal S16x3x224x224 .f32) (n : Fin 48) (k : Fin 9) (A B : Fin 28) :
    val_main_v133 x (ix4 n k A B) = cellRatio
      (fun r c => refValue (image x n) refWindow (inCell A r) (inCell B c))
      (fun r c => refBin (image x n) (inCell A r) (inCell B c)) (BitVec.ofNat 32 k.val) := by
  unfold cellRatio cellNorm
  simp only [← histogram_cell]
  unfold val_main_v133 val_main_v132 val_main_v131 val_main_v130 val_main_cst_29 val_main_v129 val_main_v128
      val_main_v127 val_main_cst_28 val_main_v126
  generalize val_main_v125 x = y
  pointwise []

/-- THE REFERENCE'S RESULT at an index. -/
theorem reference_apply (x : Vec Ideal S16x3x224x224 .f32) (b : Fin 16) (ch : Fin 108) (i j : Fin 14) :
    val_main_v142 x (ix4 b ch i j) = val_main_v133 x (ix4 (⟨b.val * 3 + ch.val / 36, by omega⟩ : Fin 48)
      (⟨ch.val % 36 / 4, by omega⟩ : Fin 9) (⟨2 * i.val + ch.val % 4 / 2, by omega⟩ : Fin 28)
      (⟨2 * j.val + ch.val % 4 % 2, by omega⟩ : Fin 28)) := by
  unfold val_main_v142 val_main_v141 val_main_v140 val_main_v139 val_main_v138 val_main_v137 val_main_v136 val_main_v135
      val_main_v134
  generalize val_main_v133 x = y
  pointwise []
  exact congrArg y (by idx_ext <;> simp <;> omega)

end Cert.Hog
-- ==== Proof.Window.lean ====
/-
  The window that weights the magnitudes: the kernel's and the reference's are equal, and every value of it is a
  positive real.
-/
module

public import proofs.«01_k».proof.Proof.ReferenceRead

@[expose] public section

set_option maxRecDepth 16384

noncomputable section

namespace Cert.Hog

open Idealize.ShloMosaic
open Cert.ReferenceIdeal Cert.ReferenceIdeal.Gen Cert.ReferenceIdeal.Read

/-- The window from the exponents of its sixteen values: their products, divided by their sum, tiled. -/
def tiled (e : FVec Ideal S16 .f32) : FVec Ideal S224x224 .f32 :=
  let v : FVec Ideal S16 .f32 := Host.exp e
  let p : FVec Ideal S16x16 .f32 := mulf
    (broadcastInDim S16x16 ![0, 1] bcast_S16x1_S16x16_0_1 (broadcastInDim S16x1 ![0] bcast_S16_S16x1_0 v))
    (broadcastInDim S16x16 ![0, 1] bcast_S1x16_S16x16_0_1 (broadcastInDim S1x16 ![1] bcast_S16_S1x16_1 v))
  let q : FVec Ideal S16x16 .f32 := Host.divf p
    (broadcastInDim S16x16 ![] bcast_S_S16x16 (Host.reduceAdd p (constant S_ .f32 0x00000000#32) reducesTo_S16x16_S_d0_1 h_S_))
  shapeCast S224x224 (broadcastInDim S14x16x14x16 ![0, 1, 2, 3] bcast_S1x16x1x16_S14x16x14x16_0_1_2_3
    (shapeCast S1x16x1x16 q shapeCasts_S16x16_S1x16x1x16)) shapeCasts_S14x16x14x16_S224x224

/-- The reference's window is that of its exponents. -/
theorem tiled_reference : val_main_v107 (F := Ideal) = tiled (val_main_v95 (F := Ideal)) := rfl

/-- The kernel's exponents: the product taken from the left. -/
def exponents : FVec Ideal S16 .f32 :=
  mulf (mulf (val_main_v94 (F := Ideal)) (val_main_v92 (F := Ideal))) (val_main_v92 (F := Ideal))

/-- They are the reference's. -/
theorem exponents_eq : exponents = val_main_v95 (F := Ideal) := by
  funext a
  show val_main_v94 (F := Ideal) a * val_main_v92 (F := Ideal) a * val_main_v92 (F := Ideal) a =
    val_main_v94 (F := Ideal) a * (val_main_v92 (F := Ideal) a * val_main_v92 (F := Ideal) a)
  exact mul_assoc _ _ _

/-- The constants sixteen, eight and minus a half. -/
theorem lit_sixteen : Ideal.ofBits .f32 0x41800000#32 = ((16 : ℝ) : EReal) := by
  simp [Ideal.ofBits, Ideal.ieee]; rw [← EReal.coe_mul]; norm_num
@[inherit_doc lit_sixteen] theorem lit_eight : Ideal.ofBits .f32 0x41000000#32 = ((8 : ℝ) : EReal) := by
  simp [Ideal.ofBits, Ideal.ieee]; rw [← EReal.coe_mul]; norm_num
@[inherit_doc lit_sixteen] theorem lit_half : Ideal.ofBits .f32 0xBF000000#32 = ((-(1 / 2) : ℝ) : EReal) := by
  simp [Ideal.ofBits, Ideal.ieee]; rw [← EReal.coe_mul]; norm_num

/-- A sum of reals, as an extended real, is the sum of the extended reals. -/
theorem coe_sum {ι : Type} [Fintype ι] (f : ι → ℝ) : ((∑ i, f i : ℝ) : EReal) = ∑ i, (f i : EReal) :=
  map_sum (⟨⟨Real.toEReal, EReal.coe_zero⟩, EReal.coe_add⟩ : ℝ →+ EReal) f _

/-- The index of one of the sixteen values, as an extended real, is a real. -/
theorem index_coe (b : BitVec 32) : FloatOps.sitofp (F := Ideal) FTy.f32 b = ((b.toInt : ℝ) : EReal) := rfl

/-- Every exponent is a real. -/
theorem exponent_real (a : Fin 16) : ∃ r : ℝ, val_main_v95 (F := Ideal) (ix1 a) = (r : EReal) := by
  pointwise [val_main_v95, val_main_v94, val_main_v93, val_main_v92, val_main_v91, val_main_v90, val_main_v89, val_main_v88,
    val_main_v87, val_main_v86, val_main_cst_21, val_main_cst_22, val_main_cst_23, val_main_cst_24]
  simp only [index_coe]
  rw [lit_half, lit_sixteen, lit_eight, ← coe_sum, div_coe (by norm_num), ← EReal.coe_sub, div_coe (by norm_num),
    ← EReal.coe_mul, ← EReal.coe_mul]
  exact ⟨_, rfl⟩

/-- The window at an index. -/
theorem tiled_apply (e : FVec Ideal S16 .f32) (i j : Fin 224) : tiled e (ix2 i j) =
    Ideal.div (Ideal.exp (e (ix1 ⟨i.val % 16, by omega⟩)) * Ideal.exp (e (ix1 ⟨j.val % 16, by omega⟩)))
      (∑ a : Fin 16, ∑ b : Fin 16, Ideal.exp (e (ix1 a)) * Ideal.exp (e (ix1 b))) := by
  pointwise [tiled]

/-- Every value of the window is a positive real: the exponential of a real is one, and so are products, sums and
    quotients of such. -/
theorem window_pos (i j : Fin 224) : IsPos (refWindow i j) := by
  choose e he using exponent_real
  unfold refWindow
  rw [tiled_reference, tiled_apply]
  simp only [he]
  have hx : ∀ r : ℝ, Ideal.exp (r : EReal) = ((Real.exp r : ℝ) : EReal) := fun r => rfl
  have hs : 0 < ∑ a : Fin 16, ∑ b : Fin 16, Real.exp (e a) * Real.exp (e b) :=
    Finset.sum_pos (fun a _ => Finset.sum_pos (fun b _ => by positivity) ⟨0, Finset.mem_univ _⟩) ⟨0, Finset.mem_univ _⟩
  simp only [hx, ← EReal.coe_mul, ← coe_sum]
  rw [div_coe hs.ne']
  exact ⟨_, div_pos (by positivity) hs, rfl⟩

end Cert.Hog
-- ==== Proof.KernelRun.lean ====
/-
  The kernel's run: what the host operations before the region leave in its windows' arrays, what the region leaves in
  its result's array, and what the reshape after it makes of that.
-/
module

public import proofs.«01_k».proof.Proof.KernelIdealFrame
public import proofs.«01_k».proof.Proof.KernelBlock
public import proofs.«01_k».proof.Proof.Table
public import proofs.«01_k».proof.Proof.Window
public import Idealize.ShloMosaic.Lib.Pipeline.ValueKit

@[expose] public section

set_option maxRecDepth 16384

noncomputable section

namespace Cert.KernelIdeal.Hog

open Idealize.ShloMosaic Idealize.ShloMosaic.StableHlo Idealize.SL.Sem
open Idealize.ShloMosaic.Pipeline
open Cert.KernelIdeal Cert.KernelIdeal.Gen Cert.Hog

variable (m : (ℓ : Loc nD τ sig) → Buf (Elt Ideal) ℓ) (ρ : Dev nD → PrngReg)

/-- The argument on core `c`. -/
abbrev arg (c : Dev nD) : Vec Ideal S16x3x224x224 .f32 := m ((c.tc : Thread nD τ).loc main_arg0)

/-- The images' array is the argument reshaped. -/
theorem V_images (c : Dev nD) : V m c main_call0_v0 = shapeCast S48x224x224 (arg m c) shapeCasts_S16x3x224x224_S48x224x224 := by
  unfold V V0
  simp only [List.flatten_cons, List.flatten_nil, List.append_nil]
  unfold hostOps0
  after_results
  rfl

/-- The window's array is the reference's window. -/
theorem V_window (c : Dev nD) : V m c main_call0_v22 = tiled exponents := by
  unfold V V0
  simp only [List.flatten_cons, List.flatten_nil, List.append_nil]
  unfold hostOps0
  after_results
  rfl

/-- The pooling tables. -/
theorem V_left (c : Dev nD) : V m c main_call0_cst = fun i => FloatOps.ofBits (F := Ideal) .f32 (lit0 (S28x224.rowMajor i)) := by
  unfold V V0
  simp only [List.flatten_cons, List.flatten_nil, List.append_nil]
  unfold hostOps0
  after_results
  try rfl
@[inherit_doc V_left] theorem V_right (c : Dev nD) :
    V m c main_call0_cst_0 = fun i => FloatOps.ofBits (F := Ideal) .f32 (lit1 (S224x28.rowMajor i)) := by
  unfold V V0
  simp only [List.flatten_cons, List.flatten_nil, List.append_nil]
  unfold hostOps0
  after_results
  try rfl

/-- The images' array at an index. -/
theorem V_images_apply (c : Dev nD) (n : Fin 48) (a b : Fin 224) :
    V m c main_call0_v0 (ix3 n a b) = image (arg m c) n a b := by
  rw [V_images]
  exact images_apply (arg m c) n a b

/-- The window's array at an index. -/
theorem V_window_apply (c : Dev nD) (i j : Fin 224) : V m c main_call0_v22 (ix2 i j) = refWindow i j := by
  rw [V_window, exponents_eq, ← tiled_reference]
  rfl

/-! ## The windows' indices -/

/-- The block index of every window at every point: the point along the images, zero along every other axis. -/
theorem idx_in (t : Fin cfg0.N) : win0_0.index t = ![t.val, 0, 0] := by
  revert t; decide +kernel
@[inherit_doc idx_in] theorem idx_window (t : Fin cfg0.N) : win0_1.index t = ![0, 0] := by
  revert t; decide +kernel
@[inherit_doc idx_in] theorem idx_left (t : Fin cfg0.N) : win0_2.index t = ![0, 0] := by
  revert t; decide +kernel
@[inherit_doc idx_in] theorem idx_right (t : Fin cfg0.N) : win0_3.index t = ![0, 0] := by
  revert t; decide +kernel
@[inherit_doc idx_in] theorem idx_out (t : Fin cfg0.N) : win0_4.index t = ![t.val, 0, 0, 0, 0] := by
  revert t; decide +kernel

/-- The image a point and a place in its block name. -/
def imageOf (t : Fin cfg0.N) (g : Fin 8) : Fin 48 :=
  ⟨8 * t.val + g.val, by have h : t.val < 6 := t.isLt; omega⟩

/-- The blocks at a point, as arrays of their shapes. -/
abbrev blockImages (c : Dev nD) (t : Fin cfg0.N) : Vec Ideal S8x224x224 .f32 := iblk m c 0 t
@[inherit_doc blockImages] abbrev blockWindow (c : Dev nD) (t : Fin cfg0.N) : Vec Ideal S224x224 .f32 := iblk m c 1 t
@[inherit_doc blockImages] abbrev blockLeft (c : Dev nD) (t : Fin cfg0.N) : Vec Ideal S28x224 .f32 := iblk m c 2 t
@[inherit_doc blockImages] abbrev blockRight (c : Dev nD) (t : Fin cfg0.N) : Vec Ideal S224x28 .f32 := iblk m c 3 t
/-- The region's result array, as an array of its shape. -/
abbrev resultArr (c : Dev nD) : Vec Ideal S48x9x4x14x14 .f32 := (dats m 0 c).arrAt 4 cfg0.N

/-- Where a block's index lies in its array. -/
theorem emb_images (t : Fin cfg0.N) (g : Fin 8) (a b : Fin 224) :
    (win0_0.blk t).view.emb (ix3 g a b) = ix3 (imageOf t g) a b := by
  have e := idx_in t
  funext d; apply Fin.ext
  match d with
  | ⟨0, _⟩ => show win0_0.index t 0 * 8 + 1 * g.val = 8 * t.val + g.val; rw [e]; show t.val * 8 + 1 * g.val = _; omega
  | ⟨1, _⟩ => show win0_0.index t 1 * 224 + 1 * a.val = a.val; rw [e]; show 0 * 224 + 1 * a.val = _; omega
  | ⟨2, _⟩ => show win0_0.index t 2 * 224 + 1 * b.val = b.val; rw [e]; show 0 * 224 + 1 * b.val = _; omega
@[inherit_doc emb_images] theorem emb_window (t : Fin cfg0.N) (a b : Fin 224) :
    (win0_1.blk t).view.emb (ix2 a b) = ix2 a b := by
  have e := idx_window t
  funext d; apply Fin.ext
  match d with
  | ⟨0, _⟩ => show win0_1.index t 0 * 224 + 1 * a.val = a.val; rw [e]; show 0 * 224 + 1 * a.val = _; omega
  | ⟨1, _⟩ => show win0_1.index t 1 * 224 + 1 * b.val = b.val; rw [e]; show 0 * 224 + 1 * b.val = _; omega
@[inherit_doc emb_images] theorem emb_left (t : Fin cfg0.N) (a : Fin 28) (b : Fin 224) :
    (win0_2.blk t).view.emb (ix2 a b) = ix2 a b := by
  have e := idx_left t
  funext d; apply Fin.ext
  match d with
  | ⟨0, _⟩ => show win0_2.index t 0 * 28 + 1 * a.val = a.val; rw [e]; show 0 * 28 + 1 * a.val = _; omega
  | ⟨1, _⟩ => show win0_2.index t 1 * 224 + 1 * b.val = b.val; rw [e]; show 0 * 224 + 1 * b.val = _; omega
@[inherit_doc emb_images] theorem emb_right (t : Fin cfg0.N) (a : Fin 224) (b : Fin 28) :
    (win0_3.blk t).view.emb (ix2 a b) = ix2 a b := by
  have e := idx_right t
  funext d; apply Fin.ext
  match d with
  | ⟨0, _⟩ => show win0_3.index t 0 * 224 + 1 * a.val = a.val; rw [e]; show 0 * 224 + 1 * a.val = _; omega
  | ⟨1, _⟩ => show win0_3.index t 1 * 28 + 1 * b.val = b.val; rw [e]; show 0 * 28 + 1 * b.val = _; omega
@[inherit_doc emb_images] theorem emb_out (t : Fin cfg0.N) (g : Fin 8) (k : Fin 9) (q : Fin 4) (i j : Fin 14) :
    (win0_4.blk t).view.emb (ix5 g k q i j) = ix5 (imageOf t g) k q i j := by
  have e := idx_out t
  funext d; apply Fin.ext
  match d with
  | ⟨0, _⟩ => show win0_4.index t 0 * 8 + 1 * g.val = 8 * t.val + g.val; rw [e]; show t.val * 8 + 1 * g.val = _; omega
  | ⟨1, _⟩ => show win0_4.index t 1 * 9 + 1 * k.val = k.val; rw [e]; show 0 * 9 + 1 * k.val = _; omega
  | ⟨2, _⟩ => show win0_4.index t 2 * 4 + 1 * q.val = q.val; rw [e]; show 0 * 4 + 1 * q.val = _; omega
  | ⟨3, _⟩ => show win0_4.index t 3 * 14 + 1 * i.val = i.val; rw [e]; show 0 * 14 + 1 * i.val = _; omega
  | ⟨4, _⟩ => show win0_4.index t 4 * 14 + 1 * j.val = j.val; rw [e]; show 0 * 14 + 1 * j.val = _; omega

/-- The images' block at an index. -/
theorem iblk_images (c : Dev nD) (t : Fin cfg0.N) (g : Fin 8) (a b : Fin 224) :
    blockImages m c t (ix3 g a b) = image (arg m c) (imageOf t g) a b := by
  rw [← V_images_apply]
  show iblk m c 0 t (ix3 g a b) = _
  blk_simp [iblk]
  exact congrArg (V m c main_call0_v0) (emb_images t g a b)

/-- The window's block at an index. -/
theorem iblk_window (c : Dev nD) (t : Fin cfg0.N) (i j : Fin 224) : blockWindow m c t (ix2 i j) = refWindow i j := by
  rw [← V_window_apply m c]
  show iblk m c 1 t (ix2 i j) = _
  blk_simp [iblk]
  exact congrArg (V m c main_call0_v22) (emb_window t i j)

/-- The blocks of the pooling tables at an index. -/
theorem iblk_left (c : Dev nD) (t : Fin cfg0.N) (A : Fin 28) (i : Fin 224) :
    blockLeft m c t (ix2 A i) = if i.val / 8 = (cellOf A).val then 1 else 0 := by
  rw [← left_apply]
  show iblk m c 2 t (ix2 A i) = _
  blk_simp [iblk]
  exact (congrArg (V m c main_call0_cst) (emb_left t A i)).trans (congrFun (V_left m c) _)
@[inherit_doc iblk_left] theorem iblk_right (c : Dev nD) (t : Fin cfg0.N) (j : Fin 224) (B : Fin 28) :
    blockRight m c t (ix2 j B) = if j.val / 8 = (cellOf B).val then 1 else 0 := by
  rw [← right_apply]
  show iblk m c 3 t (ix2 j B) = _
  blk_simp [iblk]
  exact (congrArg (V m c main_call0_cst_0) (emb_right t j B)).trans (congrFun (V_right m c) _)

/-- The kernel's result for one image, bin, quarter and place. -/
def kernelAt (x : Vec Ideal S16x3x224x224 .f32) (n : Fin 48) (k : Fin 9) (q : Fin 4) (i j : Fin 14) : EReal :=
  cellRatio (fun r c => kernelValue (image x n) refWindow (inCell ⟨2 * i.val + q.val / 2, by omega⟩ r)
      (inCell ⟨2 * j.val + q.val % 2, by omega⟩ c))
    (fun r c => kernelBin (image x n) (inCell ⟨2 * i.val + q.val / 2, by omega⟩ r)
      (inCell ⟨2 * j.val + q.val % 2, by omega⟩ c)) (BitVec.ofNat 32 k.val)

/-- The block the body leaves, at an index. -/
theorem block_result (c : Dev nD) (t : Fin cfg0.N) (g : Fin 8) (k : Fin 9) (q : Fin 4) (i j : Fin 14) :
    blockOut (blockImages m c t) (blockWindow m c t) (blockLeft m c t) (blockRight m c t) (ix5 g k q i j) =
      kernelAt (arg m c) (imageOf t g) k q i j := by
  rw [blockOut_apply _ _ _ _ (iblk_left m c t) (iblk_right m c t)]
  have ey : (fun a b => blockImages m c t (ix3 g a b)) = image (arg m c) (imageOf t g) :=
    funext fun a => funext fun b => iblk_images m c t g a b
  have ew : (fun a b => blockWindow m c t (ix2 a b)) = refWindow := funext fun a => funext fun b => iblk_window m c t a b
  rw [ey, ew]
  rfl

/-- What the region leaves in its result's array. -/
theorem arr_result (c : Dev nD) : resultArr m c = fun y : S48x9x4x14x14.Idx =>
    kernelAt (arg m c) (y 0) (y 1) (y 2) (y 3) (y 4) := by
  refine (dats m 0 c).arrAt_eq_of_covers 4 _ (by decide +kernel) fun t hf y => ?_
  blk_simp
  rw [after0_4]
  have hy : y = (ix5 (y 0) (y 1) (y 2) (y 3) (y 4) : S8x9x4x14x14.Idx) := by
    funext d
    match d with
    | ⟨0, _⟩ => rfl
    | ⟨1, _⟩ => rfl
    | ⟨2, _⟩ => rfl
    | ⟨3, _⟩ => rfl
    | ⟨4, _⟩ => rfl
  rw [hy]
  refine (block_result m c t (y 0) (y 1) (y 2) (y 3) (y 4)).trans ?_
  exact (congrArg (fun z : S48x9x4x14x14.Idx => kernelAt (arg m c) (z 0) (z 1) (z 2) (z 3) (z 4))
    (emb_out t (y 0) (y 1) (y 2) (y 3) (y 4))).symm

/-- The result is the region's array reshaped. -/
theorem W_result (c : Dev nD) : Pipeline.afterTail₀ cfgs (dats m) 0 (V0 m) [hostOps1] c main_v0 =
    shapeCast S16x108x14x14 (resultArr m c) shapeCasts_S48x9x4x14x14_S16x108x14x14 := by
  unfold Pipeline.afterTail₀
  simp only [List.flatten_cons, List.flatten_nil, List.append_nil]
  unfold hostOps1
  after_results
  have e : withArrays (cfgs 0).spec c (V0 m c) (fun w => (dats m 0 c).arrAt w (cfgs 0).N)
      (Proc.devRef .tc (Pipeline.arrRef (cfgs 0).spec 4)) = resultArr m c :=
    Pipeline.withArrays_arr (cfgs 0).spec (by decide) c (V0 m c) _ 4
  exact congrArg (fun v => shapeCast S16x108x14x14 v shapeCasts_S48x9x4x14x14_S16x108x14x14) e

/-- The result at an index. -/
theorem result_apply (c : Dev nD) (b : Fin 16) (ch : Fin 108) (i j : Fin 14) :
    (Pipeline.afterTail₀ cfgs (dats m) 0 (V0 m) [hostOps1] c main_v0 : Vec Ideal S16x108x14x14 .f32) (ix4 b ch i j) =
      kernelAt (arg m c) ⟨b.val * 3 + ch.val / 36, by omega⟩ ⟨ch.val % 36 / 4, by omega⟩ ⟨ch.val % 4, by omega⟩ i j := by
  rw [W_result, arr_result]
  generalize arg m c = x
  pointwise []
  exact congrArg (fun k => kernelAt x ⟨b.val * 3 + ch.val / 36, by omega⟩ k ⟨ch.val % 4, by omega⟩ i j)
    (Fin.ext (by show ch.val / 4 % 9 = ch.val % 36 / 4; omega))

end Cert.KernelIdeal.Hog
-- ==== Proof.EdgesRead.lean ====
/-
  The precondition at an index: at every pixel and every edge, the ratio of the gradients is at least the kernel's
  edge just when it is at least the exact edge.
-/
module

public import proofs.«01_k».proof.Pre_edges_clear
public import proofs.«01_k».proof.Proof.ReferenceRead

@[expose] public section

set_option maxRecDepth 16384

noncomputable section

namespace Cert.Hog

open Idealize.ShloMosaic
open Cert.Pre_edges_clear Cert.Pre_edges_clear.Facts Cert.ReferenceIdeal.Read

/-- The relations of shapes that the precondition names hold. -/
theorem edges_facts : Cert.Pre_edges_clear.Facts := by
  constructor <;> decide

variable [Cert.Pre_edges_clear.Facts]

/-- The precondition over two arrays of gradients. -/
def clearOf (gx gy : FVec Ideal S48x224x224 .f32) : IVec S48x224x224x8 1 :=
  let t : FVec Ideal S48x224x224x8 .f32 := broadcastInDim S48x224x224x8 ![0, 1, 2, 3] bcast_S48x224x224x1_S48x224x224x8_0_1_2_3
    (broadcastInDim S48x224x224x1 ![0, 1, 2] bcast_S48x224x224_S48x224x224x1_0_1_2 (Host.divf gx gy))
  let w : FVec Ideal S8 .f32 := fun i => FloatOps.ofBits .f32 (lit0 (S8.rowMajor i))
  let e : FVec Ideal S8 .f32 := Host.tan (Host.divf (mulf (addf (broadcastInDim S8 ![] bcast_S_S8 (constant S_ .f32 0x3F800000#32))
      (sitofp .f32 (iotaInDim S8 32 0))) (broadcastInDim S8 ![] bcast_S_S8 (Host.acos (constant S_ .f32 0xBF800000#32))))
      (broadcastInDim S8 ![] bcast_S_S8 (constant S_ .f32 0x41100000#32)))
  let wide : FVec Ideal S8 .f32 → FVec Ideal S48x224x224x8 .f32 := fun v =>
    broadcastInDim S48x224x224x8 ![0, 1, 2, 3] bcast_S1x1x1x8_S48x224x224x8_0_1_2_3
      (broadcastInDim S1x1x1x8 ![3] bcast_S8_S1x1x1x8_3 v)
  cmpi .eq (cmpf .oge t (wide w)) (cmpf .oge t (wide e))

/-- The precondition is that, over the reference's gradients. -/
theorem clear_eq (x : Vec Ideal S16x3x224x224 .f32) : fn (F := Ideal) x = clearOf (val_main_v38 x) (val_main_v75 x) := rfl

/-- The kernel's edge words, in the table's order. -/
theorem edge_word (m : Fin 8) : lit0 (S8.rowMajor (ix1 m)) = edgeWord m := by
  fin_cases m <;> rfl

/-- THE PRECONDITION at a pixel and an edge. -/
theorem clear_apply (x : Vec Ideal S16x3x224x224 .f32) (h : fn (F := Ideal) x = fun _ => 1#1) (n : Fin 48) (i j : Fin 224)
    (m : Fin 8) :
    Ideal.ofBits .f32 (edgeWord m) ≤ Ideal.div (taps wordsX (around (image x n) i j)) (taps wordsY (around (image x n) i j)) ↔
      exactEdge m ≤ Ideal.div (taps wordsX (around (image x n) i j)) (taps wordsY (around (image x n) i j)) := by
  have e := congrFun ((clear_eq x).symm.trans h) (ix4 n i j m)
  rw [← gradientX_apply, ← gradientY_apply]
  revert e
  unfold clearOf
  rw [← edge_word]
  generalize val_main_v38 x = gx
  generalize val_main_v75 x = gy
  pointwise []
  generalize Ideal.div (gx (ix3 n i j)) (gy (ix3 n i j)) = t
  have he : Ideal.tan (Ideal.div ((1 + FloatOps.sitofp (F := Ideal) FTy.f32 (BitVec.ofNat 32 m.val)) *
      Ideal.acos (Ideal.ofBits FTy.f32 3212836864#32)) (Ideal.ofBits FTy.f32 1091567616#32)) = exactEdge m := by
    unfold exactEdge
    rw [lit_one, EReal.coe_one]
    rfl
  rw [he]
  intro e
  by_cases p : Ideal.ofBits .f32 (lit0 (S8.rowMajor (ix1 m))) ≤ t <;> by_cases q : exactEdge m ≤ t <;>
    simp [p, q, IntOp.cmpi] at e ⊢

end Cert.Hog
-- ==== Proof.Equal.lean ====
/-
  The kernel's result is the reference's, where the precondition holds: cell by cell, and then for the runs.
-/
module

public import proofs.«01_k».proof.Proof.KernelRun
public import proofs.«01_k».proof.Proof.EdgesRead
public import proofs.«01_k».proof.Proof.Gen.ReferenceIdeal.Run

@[expose] public section

set_option maxRecDepth 16384

noncomputable section

namespace Cert.Hog

open Idealize.ShloMosaic
open Cert.ReferenceIdeal Cert.ReferenceIdeal.Read

variable [Cert.Pre_edges_clear.Facts]

/-- THE CELLS AGREE: under the precondition a cell's ratio over the kernel's values and bins is the one over the
    reference's. At every pixel the magnitudes are equal, and the bins are unless the magnitude is zero or infinite. -/
theorem cells_agree (x : Vec Ideal S16x3x224x224 .f32) (h : Cert.Pre_edges_clear.fn (F := Ideal) x = fun _ => 1#1)
    (n : Fin 48) (A B : Fin 28) (k : BitVec 32) :
    cellRatio (fun r c => kernelValue (image x n) refWindow (inCell A r) (inCell B c))
        (fun r c => kernelBin (image x n) (inCell A r) (inCell B c)) k =
      cellRatio (fun r c => refValue (image x n) refWindow (inCell A r) (inCell B c))
        (fun r c => refBin (image x n) (inCell A r) (inCell B c)) k := by
  have p := fun r c => pixel (around (image x n) (inCell A r) (inCell B c)) (clear_apply x h n (inCell A r) (inCell B c))
  have g := fun r c => mul_pos_cases (p r c).2.1 (window_pos (inCell A r) (inCell B c))
  have ev : (fun r c => refValue (image x n) refWindow (inCell A r) (inCell B c)) =
      fun r c => kernelValue (image x n) refWindow (inCell A r) (inCell B c) :=
    funext fun r => funext fun c => congrArg (· * refWindow (inCell A r) (inCell B c)) (p r c).1.symm
  rw [ev]
  exact cell _ _ _ (fun r c => (g r c).1) (fun r c => isBin_count _) (fun r c => isBin_modNine _)
    (fun r c => (p r c).2.2.imp (g r c).2.1 (Or.imp_left (g r c).2.2)) k

end Cert.Hog

namespace Cert.KernelIdeal.Hog

open Idealize.ShloMosaic Idealize.ShloMosaic.TcCoe Idealize.SL.Sem
open Cert.KernelIdeal Cert.KernelIdeal.Gen Cert.Hog

variable [Cert.Pre_edges_clear.Facts]
variable (m : (ℓ : Loc nD τ sig) → Buf (Elt Ideal) ℓ) (ρ : Dev nD → PrngReg)

/-- THE RESULTS AGREE: what the kernel's program leaves in its result is the reference's result of its argument. -/
theorem result_eq (c : Dev nD) (h : Cert.Pre_edges_clear.fn (F := Ideal) (arg m c) = fun _ => 1#1) :
    Pipeline.afterTail₀ cfgs (dats m) 0 (V0 m) [hostOps1] c main_v0 = Cert.ReferenceIdeal.Read.val_main_v142 (arg m c) := by
  funext y
  have hy : y = (ix4 (y 0) (y 1) (y 2) (y 3) : S16x108x14x14.Idx) := by
    funext d
    match d with
    | ⟨0, _⟩ => rfl
    | ⟨1, _⟩ => rfl
    | ⟨2, _⟩ => rfl
    | ⟨3, _⟩ => rfl
  rw [hy]
  refine (result_apply m c (y 0) (y 1) (y 2) (y 3)).trans ?_
  refine Eq.trans ?_ (reference_apply (arg m c) (y 0) (y 1) (y 2) (y 3)).symm
  refine Eq.trans ?_ (quotient_cell (arg m c) _ _ _ _).symm
  exact cells_agree (arg m c) h _ _ _ _

/-- THE RUN of the kernel's program: its result is the reference's of its argument, which is unchanged. -/
theorem run (h : ∀ c : Dev nD, Cert.Pre_edges_clear.fn (F := Ideal) (arg m c) = fun _ => 1#1) :
    θ_run defs (onTc (τ := τ) (main (F := Ideal))) ⟨m, fun _ => 0, ρ⟩ (fun r => ∀ c : Dev nD,
      r.2.mem ((c.tc : Thread nD τ).loc main_v0) = Cert.ReferenceIdeal.Read.val_main_v142 (arg m c)
      ∧ r.2.mem ((c.tc : Thread nD τ).loc main_arg0) = m ((c.tc : Thread nD τ).loc main_arg0)) :=
  (θ_run defs _ _).mono (fun _ p c =>
    ⟨((p c).2 main_v0 (Pipeline.mem_restRefs_of main_v0 (by decide) (by decide))).trans (result_eq m c (h c)),
     ((p c).2 main_arg0 (Pipeline.mem_restRefs_of main_arg0 (by decide) (by decide))).trans (W_main_arg0 m (dats m) c)⟩)
    (run_main m ρ)

end Cert.KernelIdeal.Hog
-- ==== Proof.lean ====
/-
  The certificate: the kernel and its reading over the extended reals run and leave their argument alone, so does
  the reference, and the kernel's reading computes the reference's result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.KernelFrame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.KernelIdealFrame
public import proofs.«01_k».proof.Proof.Gen.ReferenceIdeal
public import proofs.«01_k».proof.Proof.Gen.ReferenceIdeal.Run
public import proofs.«01_k».proof.Proof.Gen.ReferenceIdeal.Read
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The reference runs and leaves its argument alone; it has no semaphore. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The reference's result is its value of its argument, which is unchanged. -/
theorem run_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
      r.2.mem ((c.tc : Thread Cert.ReferenceIdeal.nD Cert.ReferenceIdeal.τ).loc Cert.ReferenceIdeal.main_v142) =
        Cert.ReferenceIdeal.Read.val_main_v142 (F := Ideal)
          (m ((c.tc : Thread Cert.ReferenceIdeal.nD Cert.ReferenceIdeal.τ).loc Cert.ReferenceIdeal.main_arg0))
      ∧ r.2.mem ((c.tc : Thread Cert.ReferenceIdeal.nD Cert.ReferenceIdeal.τ).loc Cert.ReferenceIdeal.main_arg0) =
        m ((c.tc : Thread Cert.ReferenceIdeal.nD Cert.ReferenceIdeal.τ).loc Cert.ReferenceIdeal.main_arg0)) :=
  (θ_run Cert.ReferenceIdeal.defs _ _).mono (fun _ h c =>
    ⟨(h c).1.trans (Cert.ReferenceIdeal.Read.val_main_v142_eq (F := Ideal) (StableHlo.launchContents m c)), (h c).2⟩)
    (Cert.ReferenceIdeal.Value.run (F := Ideal) m ρ)

/-- The relations of shapes that the precondition names hold. -/
local instance : Cert.Pre_edges_clear.Facts := Cert.Hog.edges_facts

/-- THE ALGEBRAIC CLAIM: from memories that agree on the argument, where the precondition holds of it, the two programs
    end with equal results and unchanged arguments. -/
theorem algebraic : Cert.algebraic_KernelIdeal_ReferenceIdeal_pre_edges_clear := fun m ρ m' ρ' hpre harg =>
  ⟨fun c => Cert.ReferenceIdeal.Read.val_main_v142 (F := Ideal) (Cert.KernelIdeal.Hog.arg m c),
    Cert.KernelIdeal.Hog.run m ρ hpre,
    (θ_run Cert.ReferenceIdeal.defs _ _).mono (fun _ h c =>
      ⟨(h c).1.trans (congrArg (Cert.ReferenceIdeal.Read.val_main_v142 (F := Ideal)) (harg c)), (h c).2⟩)
      (run_reference m' ρ')⟩

/-- Everything claimed. -/
theorem claim : Cert.Claim := ⟨Cert.Kernel.Gen.facts, Cert.KernelIdeal.Gen.facts, Cert.ReferenceIdeal.Gen.facts,
  Cert.Hog.edges_facts, fun m ρ _ => Cert.Kernel.Hog.frame m ρ, fun m ρ _ => Cert.KernelIdeal.Hog.frame m ρ,
  fun m ρ _ => Cert.KernelIdeal.Hog.frame m ρ, frame_reference, fun m ρ _ => frame_reference m ρ trivial,
  trivial, algebraic⟩

end Cert.Proof

end
